-- ==== Defs.lean ====
def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinIdeal_finite [hPre_finite : Cert.Pre_finite.Facts] (m : (ℓ : Loc Cert.WinIdeal.nD Cert.WinIdeal.τ Cert.WinIdeal.sig) → Buf (Elt Ideal) ℓ) : Prop :=
  ∀ c : Dev Cert.WinIdeal.nD,
    (Cert.Pre_finite.fn (F := Ideal) (m ((c.tc : Thread Cert.WinIdeal.nD Cert.WinIdeal.τ).loc Cert.WinIdeal.main_arg0)) (m ((c.tc : Thread Cert.WinIdeal.nD Cert.WinIdeal.τ).loc Cert.WinIdeal.main_arg1)) (m ((c.tc : Thread Cert.WinIdeal.nD Cert.WinIdeal.τ).loc Cert.WinIdeal.main_arg2))) = (fun _ => 1#1)

def Pre_WinRefIdeal (m : (ℓ : Loc Cert.WinRefIdeal.nD Cert.WinRefIdeal.τ Cert.WinRefIdeal.sig) → Buf (Elt Ideal) ℓ) : Prop :=
  True

def Pre_WinRefIdeal_finite [hPre_finite : Cert.Pre_finite.Facts] (m : (ℓ : Loc Cert.WinRefIdeal.nD Cert.WinRefIdeal.τ Cert.WinRefIdeal.sig) → Buf (Elt Ideal) ℓ) : Prop :=
  ∀ c : Dev Cert.WinRefIdeal.nD,
    (Cert.Pre_finite.fn (F := Ideal) (m ((c.tc : Thread Cert.WinRefIdeal.nD Cert.WinRefIdeal.τ).loc Cert.WinRefIdeal.main_arg0)) (m ((c.tc : Thread Cert.WinRefIdeal.nD Cert.WinRefIdeal.τ).loc Cert.WinRefIdeal.main_arg1)) (m ((c.tc : Thread Cert.WinRefIdeal.nD Cert.WinRefIdeal.τ).loc Cert.WinRefIdeal.main_arg2))) = (fun _ => 1#1)

def Pre_ProjQ (m : (ℓ : Loc Cert.ProjQ.nD Cert.ProjQ.τ Cert.ProjQ.sig) → Buf (Elt Bits) ℓ) : Prop :=
  True

def Pre_ProjQIdeal (m : (ℓ : Loc Cert.ProjQIdeal.nD Cert.ProjQIdeal.τ Cert.ProjQIdeal.sig) → Buf (Elt Ideal) ℓ) : Prop :=
  True

def Pre_ProjQRefIdeal (m : (ℓ : Loc Cert.ProjQRefIdeal.nD Cert.ProjQRefIdeal.τ Cert.ProjQRefIdeal.sig) → Buf (Elt Ideal) ℓ) : Prop :=
  True

def Pre_ProjKv (m : (ℓ : Loc Cert.ProjKv.nD Cert.ProjKv.τ Cert.ProjKv.sig) → Buf (Elt Bits) ℓ) : Prop :=
  True

def Pre_ProjKvIdeal (m : (ℓ : Loc Cert.ProjKvIdeal.nD Cert.ProjKvIdeal.τ Cert.ProjKvIdeal.sig) → Buf (Elt Ideal) ℓ) : Prop :=
  True

def Pre_ProjKvRefIdeal (m : (ℓ : Loc Cert.ProjKvRefIdeal.nD Cert.ProjKvRefIdeal.τ Cert.ProjKvRefIdeal.sig) → Buf (Elt Ideal) ℓ) : Prop :=
  True

def Pre_ProjXbc (m : (ℓ : Loc Cert.ProjXbc.nD Cert.ProjXbc.τ Cert.ProjXbc.sig) → Buf (Elt Bits) ℓ) : Prop :=
  True

def Pre_ProjXbcIdeal (m : (ℓ : Loc Cert.ProjXbcIdeal.nD Cert.ProjXbcIdeal.τ Cert.ProjXbcIdeal.sig) → Buf (Elt Ideal) ℓ) : Prop :=
  True

def Pre_ProjXbcRefIdeal (m : (ℓ : Loc Cert.ProjXbcRefIdeal.nD Cert.ProjXbcRefIdeal.τ Cert.ProjXbcRefIdeal.sig) → Buf (Elt Ideal) ℓ) : Prop :=
  True

def Pre_ProjMg (m : (ℓ : Loc Cert.ProjMg.nD Cert.ProjMg.τ Cert.ProjMg.sig) → Buf (Elt Bits) ℓ) : Prop :=
  True

def Pre_ProjMgIdeal (m : (ℓ : Loc Cert.ProjMgIdeal.nD Cert.ProjMgIdeal.τ Cert.ProjMgIdeal.sig) → Buf (Elt Ideal) ℓ) : Prop :=
  True

def Pre_ProjMgRefIdeal (m : (ℓ : Loc Cert.ProjMgRefIdeal.nD Cert.ProjMgRefIdeal.τ Cert.ProjMgRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Cmp (m : (ℓ : Loc Cert.Cmp.nD Cert.Cmp.τ Cert.Cmp.sig) → Buf (Elt Bits) ℓ) : Prop :=
  True

def Pre_CmpIdeal (m : (ℓ : Loc Cert.CmpIdeal.nD Cert.CmpIdeal.τ Cert.CmpIdeal.sig) → Buf (Elt Ideal) ℓ) : Prop :=
  True

def Pre_CmpIdeal_finite_cmp [hPre_finite_cmp : Cert.Pre_finite_cmp.Facts] (m : (ℓ : Loc Cert.CmpIdeal.nD Cert.CmpIdeal.τ Cert.CmpIdeal.sig) → Buf (Elt Ideal) ℓ) : Prop :=
  ∀ c : Dev Cert.CmpIdeal.nD,
    (Cert.Pre_finite_cmp.fn (F := Ideal) (m ((c.tc : Thread Cert.CmpIdeal.nD Cert.CmpIdeal.τ).loc Cert.CmpIdeal.main_arg0)) (m ((c.tc : Thread Cert.CmpIdeal.nD Cert.CmpIdeal.τ).loc Cert.CmpIdeal.main_arg1)) (m ((c.tc : Thread Cert.CmpIdeal.nD Cert.CmpIdeal.τ).loc Cert.CmpIdeal.main_arg2))) = (fun _ => 1#1)

def Pre_CmpRefIdeal (m : (ℓ : Loc Cert.CmpRefIdeal.nD Cert.CmpRefIdeal.τ Cert.CmpRefIdeal.sig) → Buf (Elt Ideal) ℓ) : Prop :=
  True

def Pre_CmpRefIdeal_finite_cmp [hPre_finite_cmp : Cert.Pre_finite_cmp.Facts] (m : (ℓ : Loc Cert.CmpRefIdeal.nD Cert.CmpRefIdeal.τ Cert.CmpRefIdeal.sig) → Buf (Elt Ideal) ℓ) : Prop :=
  ∀ c : Dev Cert.CmpRefIdeal.nD,
    (Cert.Pre_finite_cmp.fn (F := Ideal) (m ((c.tc : Thread Cert.CmpRefIdeal.nD Cert.CmpRefIdeal.τ).loc Cert.CmpRefIdeal.main_arg0)) (m ((c.tc : Thread Cert.CmpRefIdeal.nD Cert.CmpRefIdeal.τ).loc Cert.CmpRefIdeal.main_arg1)) (m ((c.tc : Thread Cert.CmpRefIdeal.nD Cert.CmpRefIdeal.τ).loc Cert.CmpRefIdeal.main_arg2))) = (fun _ => 1#1)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1)
      ∧ r.2.mem ((c.tc : Thread Cert.Win.nD Cert.Win.τ).loc Cert.Win.main_arg2) = m ((c.tc : Thread Cert.Win.nD Cert.Win.τ).loc Cert.Win.main_arg2))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
      ∧ r.2.mem ((c.tc : Thread Cert.WinIdeal.nD Cert.WinIdeal.τ).loc Cert.WinIdeal.main_arg2) = m ((c.tc : Thread Cert.WinIdeal.nD Cert.WinIdeal.τ).loc Cert.WinIdeal.main_arg2))
      ∧ r.2.sem = fun _ => 0)

def quiescent_WinIdeal_pre_finite [hWinIdeal : Cert.WinIdeal.Facts] [hPre_finite : Cert.Pre_finite.Facts] : Prop :=
  ∀ (m : (ℓ : Loc Cert.WinIdeal.nD Cert.WinIdeal.τ Cert.WinIdeal.sig) → Buf (Elt Ideal) ℓ) (g : Dev Cert.WinIdeal.nD → PrngReg), Pre_WinIdeal_finite m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
      ∧ r.2.mem ((c.tc : Thread Cert.WinIdeal.nD Cert.WinIdeal.τ).loc Cert.WinIdeal.main_arg2) = m ((c.tc : Thread Cert.WinIdeal.nD Cert.WinIdeal.τ).loc Cert.WinIdeal.main_arg2))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1)
      ∧ r.2.mem ((c.tc : Thread Cert.WinRefIdeal.nD Cert.WinRefIdeal.τ).loc Cert.WinRefIdeal.main_arg2) = m ((c.tc : Thread Cert.WinRefIdeal.nD Cert.WinRefIdeal.τ).loc Cert.WinRefIdeal.main_arg2))
      ∧ r.2.sem = fun _ => 0)

def quiescent_WinRefIdeal_pre_finite [hWinRefIdeal : Cert.WinRefIdeal.Facts] [hPre_finite : Cert.Pre_finite.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal_finite m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1)
      ∧ r.2.mem ((c.tc : Thread Cert.WinRefIdeal.nD Cert.WinRefIdeal.τ).loc Cert.WinRefIdeal.main_arg2) = m ((c.tc : Thread Cert.WinRefIdeal.nD Cert.WinRefIdeal.τ).loc Cert.WinRefIdeal.main_arg2))
      ∧ r.2.sem = fun _ => 0)

def quiescent_ProjQ [hProjQ : Cert.ProjQ.Facts] : Prop :=
  ∀ (m : (ℓ : Loc Cert.ProjQ.nD Cert.ProjQ.τ Cert.ProjQ.sig) → Buf (Elt Bits) ℓ) (g : Dev Cert.ProjQ.nD → PrngReg), Pre_ProjQ m →
    θ_run (Cert.ProjQ.defs (F := Bits)) (onTc (τ := Cert.ProjQ.τ) (Cert.ProjQ.main (F := Bits))) ⟨m, fun _ => 0, g⟩ (fun r => (∀ c : Dev Cert.ProjQ.nD,
      r.2.mem ((c.tc : Thread Cert.ProjQ.nD Cert.ProjQ.τ).loc Cert.ProjQ.main_arg0) = m ((c.tc : Thread Cert.ProjQ.nD Cert.ProjQ.τ).loc Cert.ProjQ.main_arg0)
      ∧ r.2.mem ((c.tc : Thread Cert.ProjQ.nD Cert.ProjQ.τ).loc Cert.ProjQ.main_arg1) = m ((c.tc : Thread Cert.ProjQ.nD Cert.ProjQ.τ).loc Cert.ProjQ.main_arg1))
      ∧ r.2.sem = fun _ => 0)

def quiescent_ProjQIdeal [hProjQIdeal : Cert.ProjQIdeal.Facts] : Prop :=
  ∀ (m : (ℓ : Loc Cert.ProjQIdeal.nD Cert.ProjQIdeal.τ Cert.ProjQIdeal.sig) → Buf (Elt Ideal) ℓ) (g : Dev Cert.ProjQIdeal.nD → PrngReg), Pre_ProjQIdeal m →
    θ_run (Cert.ProjQIdeal.defs (F := Ideal)) (onTc (τ := Cert.ProjQIdeal.τ) (Cert.ProjQIdeal.main (F := Ideal))) ⟨m, fun _ => 0, g⟩ (fun r => (∀ c : Dev Cert.ProjQIdeal.nD,
      r.2.mem ((c.tc : Thread Cert.ProjQIdeal.nD Cert.ProjQIdeal.τ).loc Cert.ProjQIdeal.main_arg0) = m ((c.tc : Thread Cert.ProjQIdeal.nD Cert.ProjQIdeal.τ).loc Cert.ProjQIdeal.main_arg0)
      ∧ r.2.mem ((c.tc : Thread Cert.ProjQIdeal.nD Cert.ProjQIdeal.τ).loc Cert.ProjQIdeal.main_arg1) = m ((c.tc : Thread Cert.ProjQIdeal.nD Cert.ProjQIdeal.τ).loc Cert.ProjQIdeal.main_arg1))
      ∧ r.2.sem = fun _ => 0)

def quiescent_ProjQRefIdeal [hProjQRefIdeal : Cert.ProjQRefIdeal.Facts] : Prop :=
  ∀ (m : (ℓ : Loc Cert.ProjQRefIdeal.nD Cert.ProjQRefIdeal.τ Cert.ProjQRefIdeal.sig) → Buf (Elt Ideal) ℓ) (g : Dev Cert.ProjQRefIdeal.nD → PrngReg), Pre_ProjQRefIdeal m →
    θ_run (Cert.ProjQRefIdeal.defs (F := Ideal)) (onTc (τ := Cert.ProjQRefIdeal.τ) (Cert.ProjQRefIdeal.main (F := Ideal))) ⟨m, fun _ => 0, g⟩ (fun r => (∀ c : Dev Cert.ProjQRefIdeal.nD,
      r.2.mem ((c.tc : Thread Cert.ProjQRefIdeal.nD Cert.ProjQRefIdeal.τ).loc Cert.ProjQRefIdeal.main_arg0) = m ((c.tc : Thread Cert.ProjQRefIdeal.nD Cert.ProjQRefIdeal.τ).loc Cert.ProjQRefIdeal.main_arg0)
      ∧ r.2.mem ((c.tc : Thread Cert.ProjQRefIdeal.nD Cert.ProjQRefIdeal.τ).loc Cert.ProjQRefIdeal.main_arg1) = m ((c.tc : Thread Cert.ProjQRefIdeal.nD Cert.ProjQRefIdeal.τ).loc Cert.ProjQRefIdeal.main_arg1))
      ∧ r.2.sem = fun _ => 0)

def quiescent_ProjKv [hProjKv : Cert.ProjKv.Facts] : Prop :=
  ∀ (m : (ℓ : Loc Cert.ProjKv.nD Cert.ProjKv.τ Cert.ProjKv.sig) → Buf (Elt Bits) ℓ) (g : Dev Cert.ProjKv.nD → PrngReg), Pre_ProjKv m →
    θ_run (Cert.ProjKv.defs (F := Bits)) (onTc (τ := Cert.ProjKv.τ) (Cert.ProjKv.main (F := Bits))) ⟨m, fun _ => 0, g⟩ (fun r => (∀ c : Dev Cert.ProjKv.nD,
      r.2.mem ((c.tc : Thread Cert.ProjKv.nD Cert.ProjKv.τ).loc Cert.ProjKv.main_arg0) = m ((c.tc : Thread Cert.ProjKv.nD Cert.ProjKv.τ).loc Cert.ProjKv.main_arg0)
      ∧ r.2.mem ((c.tc : Thread Cert.ProjKv.nD Cert.ProjKv.τ).loc Cert.ProjKv.main_arg1) = m ((c.tc : Thread Cert.ProjKv.nD Cert.ProjKv.τ).loc Cert.ProjKv.main_arg1))
      ∧ r.2.sem = fun _ => 0)

def quiescent_ProjKvIdeal [hProjKvIdeal : Cert.ProjKvIdeal.Facts] : Prop :=
  ∀ (m : (ℓ : Loc Cert.ProjKvIdeal.nD Cert.ProjKvIdeal.τ Cert.ProjKvIdeal.sig) → Buf (Elt Ideal) ℓ) (g : Dev Cert.ProjKvIdeal.nD → PrngReg), Pre_ProjKvIdeal m →
    θ_run (Cert.ProjKvIdeal.defs (F := Ideal)) (onTc (τ := Cert.ProjKvIdeal.τ) (Cert.ProjKvIdeal.main (F := Ideal))) ⟨m, fun _ => 0, g⟩ (fun r => (∀ c : Dev Cert.ProjKvIdeal.nD,
      r.2.mem ((c.tc : Thread Cert.ProjKvIdeal.nD Cert.ProjKvIdeal.τ).loc Cert.ProjKvIdeal.main_arg0) = m ((c.tc : Thread Cert.ProjKvIdeal.nD Cert.ProjKvIdeal.τ).loc Cert.ProjKvIdeal.main_arg0)
      ∧ r.2.mem ((c.tc : Thread Cert.ProjKvIdeal.nD Cert.ProjKvIdeal.τ).loc Cert.ProjKvIdeal.main_arg1) = m ((c.tc : Thread Cert.ProjKvIdeal.nD Cert.ProjKvIdeal.τ).loc Cert.ProjKvIdeal.main_arg1))
      ∧ r.2.sem = fun _ => 0)

def quiescent_ProjKvRefIdeal [hProjKvRefIdeal : Cert.ProjKvRefIdeal.Facts] : Prop :=
  ∀ (m : (ℓ : Loc Cert.ProjKvRefIdeal.nD Cert.ProjKvRefIdeal.τ Cert.ProjKvRefIdeal.sig) → Buf (Elt Ideal) ℓ) (g : Dev Cert.ProjKvRefIdeal.nD → PrngReg), Pre_ProjKvRefIdeal m →
    θ_run (Cert.ProjKvRefIdeal.defs (F := Ideal)) (onTc (τ := Cert.ProjKvRefIdeal.τ) (Cert.ProjKvRefIdeal.main (F := Ideal))) ⟨m, fun _ => 0, g⟩ (fun r => (∀ c : Dev Cert.ProjKvRefIdeal.nD,
      r.2.mem ((c.tc : Thread Cert.ProjKvRefIdeal.nD Cert.ProjKvRefIdeal.τ).loc Cert.ProjKvRefIdeal.main_arg0) = m ((c.tc : Thread Cert.ProjKvRefIdeal.nD Cert.ProjKvRefIdeal.τ).loc Cert.ProjKvRefIdeal.main_arg0)
      ∧ r.2.mem ((c.tc : Thread Cert.ProjKvRefIdeal.nD Cert.ProjKvRefIdeal.τ).loc Cert.ProjKvRefIdeal.main_arg1) = m ((c.tc : Thread Cert.ProjKvRefIdeal.nD Cert.ProjKvRefIdeal.τ).loc Cert.ProjKvRefIdeal.main_arg1))
      ∧ r.2.sem = fun _ => 0)

def quiescent_ProjXbc [hProjXbc : Cert.ProjXbc.Facts] : Prop :=
  ∀ (m : (ℓ : Loc Cert.ProjXbc.nD Cert.ProjXbc.τ Cert.ProjXbc.sig) → Buf (Elt Bits) ℓ) (g : Dev Cert.ProjXbc.nD → PrngReg), Pre_ProjXbc m →
    θ_run (Cert.ProjXbc.defs (F := Bits)) (onTc (τ := Cert.ProjXbc.τ) (Cert.ProjXbc.main (F := Bits))) ⟨m, fun _ => 0, g⟩ (fun r => (∀ c : Dev Cert.ProjXbc.nD,
      r.2.mem ((c.tc : Thread Cert.ProjXbc.nD Cert.ProjXbc.τ).loc Cert.ProjXbc.main_arg0) = m ((c.tc : Thread Cert.ProjXbc.nD Cert.ProjXbc.τ).loc Cert.ProjXbc.main_arg0)
      ∧ r.2.mem ((c.tc : Thread Cert.ProjXbc.nD Cert.ProjXbc.τ).loc Cert.ProjXbc.main_arg1) = m ((c.tc : Thread Cert.ProjXbc.nD Cert.ProjXbc.τ).loc Cert.ProjXbc.main_arg1))
      ∧ r.2.sem = fun _ => 0)

def quiescent_ProjXbcIdeal [hProjXbcIdeal : Cert.ProjXbcIdeal.Facts] : Prop :=
  ∀ (m : (ℓ : Loc Cert.ProjXbcIdeal.nD Cert.ProjXbcIdeal.τ Cert.ProjXbcIdeal.sig) → Buf (Elt Ideal) ℓ) (g : Dev Cert.ProjXbcIdeal.nD → PrngReg), Pre_ProjXbcIdeal m →
    θ_run (Cert.ProjXbcIdeal.defs (F := Ideal)) (onTc (τ := Cert.ProjXbcIdeal.τ) (Cert.ProjXbcIdeal.main (F := Ideal))) ⟨m, fun _ => 0, g⟩ (fun r => (∀ c : Dev Cert.ProjXbcIdeal.nD,
      r.2.mem ((c.tc : Thread Cert.ProjXbcIdeal.nD Cert.ProjXbcIdeal.τ).loc Cert.ProjXbcIdeal.main_arg0) = m ((c.tc : Thread Cert.ProjXbcIdeal.nD Cert.ProjXbcIdeal.τ).loc Cert.ProjXbcIdeal.main_arg0)
      ∧ r.2.mem ((c.tc : Thread Cert.ProjXbcIdeal.nD Cert.ProjXbcIdeal.τ).loc Cert.ProjXbcIdeal.main_arg1) = m ((c.tc : Thread Cert.ProjXbcIdeal.nD Cert.ProjXbcIdeal.τ).loc Cert.ProjXbcIdeal.main_arg1))
      ∧ r.2.sem = fun _ => 0)

def quiescent_ProjXbcRefIdeal [hProjXbcRefIdeal : Cert.ProjXbcRefIdeal.Facts] : Prop :=
  ∀ (m : (ℓ : Loc Cert.ProjXbcRefIdeal.nD Cert.ProjXbcRefIdeal.τ Cert.ProjXbcRefIdeal.sig) → Buf (Elt Ideal) ℓ) (g : Dev Cert.ProjXbcRefIdeal.nD → PrngReg), Pre_ProjXbcRefIdeal m →
    θ_run (Cert.ProjXbcRefIdeal.defs (F := Ideal)) (onTc (τ := Cert.ProjXbcRefIdeal.τ) (Cert.ProjXbcRefIdeal.main (F := Ideal))) ⟨m, fun _ => 0, g⟩ (fun r => (∀ c : Dev Cert.ProjXbcRefIdeal.nD,
      r.2.mem ((c.tc : Thread Cert.ProjXbcRefIdeal.nD Cert.ProjXbcRefIdeal.τ).loc Cert.ProjXbcRefIdeal.main_arg0) = m ((c.tc : Thread Cert.ProjXbcRefIdeal.nD Cert.ProjXbcRefIdeal.τ).loc Cert.ProjXbcRefIdeal.main_arg0)
      ∧ r.2.mem ((c.tc : Thread Cert.ProjXbcRefIdeal.nD Cert.ProjXbcRefIdeal.τ).loc Cert.ProjXbcRefIdeal.main_arg1) = m ((c.tc : Thread Cert.ProjXbcRefIdeal.nD Cert.ProjXbcRefIdeal.τ).loc Cert.ProjXbcRefIdeal.main_arg1))
      ∧ r.2.sem = fun _ => 0)

def quiescent_ProjMg [hProjMg : Cert.ProjMg.Facts] : Prop :=
  ∀ (m : (ℓ : Loc Cert.ProjMg.nD Cert.ProjMg.τ Cert.ProjMg.sig) → Buf (Elt Bits) ℓ) (g : Dev Cert.ProjMg.nD → PrngReg), Pre_ProjMg m →
    θ_run (Cert.ProjMg.defs (F := Bits)) (onTc (τ := Cert.ProjMg.τ) (Cert.ProjMg.main (F := Bits))) ⟨m, fun _ => 0, g⟩ (fun r => (∀ c : Dev Cert.ProjMg.nD,
      r.2.mem ((c.tc : Thread Cert.ProjMg.nD Cert.ProjMg.τ).loc Cert.ProjMg.main_arg0) = m ((c.tc : Thread Cert.ProjMg.nD Cert.ProjMg.τ).loc Cert.ProjMg.main_arg0)
      ∧ r.2.mem ((c.tc : Thread Cert.ProjMg.nD Cert.ProjMg.τ).loc Cert.ProjMg.main_arg1) = m ((c.tc : Thread Cert.ProjMg.nD Cert.ProjMg.τ).loc Cert.ProjMg.main_arg1))
      ∧ r.2.sem = fun _ => 0)

def quiescent_ProjMgIdeal [hProjMgIdeal : Cert.ProjMgIdeal.Facts] : Prop :=
  ∀ (m : (ℓ : Loc Cert.ProjMgIdeal.nD Cert.ProjMgIdeal.τ Cert.ProjMgIdeal.sig) → Buf (Elt Ideal) ℓ) (g : Dev Cert.ProjMgIdeal.nD → PrngReg), Pre_ProjMgIdeal m →
    θ_run (Cert.ProjMgIdeal.defs (F := Ideal)) (onTc (τ := Cert.ProjMgIdeal.τ) (Cert.ProjMgIdeal.main (F := Ideal))) ⟨m, fun _ => 0, g⟩ (fun r => (∀ c : Dev Cert.ProjMgIdeal.nD,
      r.2.mem ((c.tc : Thread Cert.ProjMgIdeal.nD Cert.ProjMgIdeal.τ).loc Cert.ProjMgIdeal.main_arg0) = m ((c.tc : Thread Cert.ProjMgIdeal.nD Cert.ProjMgIdeal.τ).loc Cert.ProjMgIdeal.main_arg0)
      ∧ r.2.mem ((c.tc : Thread Cert.ProjMgIdeal.nD Cert.ProjMgIdeal.τ).loc Cert.ProjMgIdeal.main_arg1) = m ((c.tc : Thread Cert.ProjMgIdeal.nD Cert.ProjMgIdeal.τ).loc Cert.ProjMgIdeal.main_arg1))
      ∧ r.2.sem = fun _ => 0)

def quiescent_ProjMgRefIdeal [hProjMgRefIdeal : Cert.ProjMgRefIdeal.Facts] : Prop :=
  ∀ (m : (ℓ : Loc Cert.ProjMgRefIdeal.nD Cert.ProjMgRefIdeal.τ Cert.ProjMgRefIdeal.sig) → Buf (Elt Ideal) ℓ) (g : Dev Cert.ProjMgRefIdeal.nD → PrngReg), Pre_ProjMgRefIdeal m →
    θ_run (Cert.ProjMgRefIdeal.defs (F := Ideal)) (onTc (τ := Cert.ProjMgRefIdeal.τ) (Cert.ProjMgRefIdeal.main (F := Ideal))) ⟨m, fun _ => 0, g⟩ (fun r => (∀ c : Dev Cert.ProjMgRefIdeal.nD,
      r.2.mem ((c.tc : Thread Cert.ProjMgRefIdeal.nD Cert.ProjMgRefIdeal.τ).loc Cert.ProjMgRefIdeal.main_arg0) = m ((c.tc : Thread Cert.ProjMgRefIdeal.nD Cert.ProjMgRefIdeal.τ).loc Cert.ProjMgRefIdeal.main_arg0)
      ∧ r.2.mem ((c.tc : Thread Cert.ProjMgRefIdeal.nD Cert.ProjMgRefIdeal.τ).loc Cert.ProjMgRefIdeal.main_arg1) = m ((c.tc : Thread Cert.ProjMgRefIdeal.nD Cert.ProjMgRefIdeal.τ).loc Cert.ProjMgRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_Cmp [hCmp : Cert.Cmp.Facts] : Prop :=
  ∀ (m : (ℓ : Loc Cert.Cmp.nD Cert.Cmp.τ Cert.Cmp.sig) → Buf (Elt Bits) ℓ) (g : Dev Cert.Cmp.nD → PrngReg), Pre_Cmp m →
    θ_run (Cert.Cmp.defs (F := Bits)) (onTc (τ := Cert.Cmp.τ) (Cert.Cmp.main (F := Bits))) ⟨m, fun _ => 0, g⟩ (fun r => (∀ c : Dev Cert.Cmp.nD,
      r.2.mem ((c.tc : Thread Cert.Cmp.nD Cert.Cmp.τ).loc Cert.Cmp.main_arg0) = m ((c.tc : Thread Cert.Cmp.nD Cert.Cmp.τ).loc Cert.Cmp.main_arg0)
      ∧ r.2.mem ((c.tc : Thread Cert.Cmp.nD Cert.Cmp.τ).loc Cert.Cmp.main_arg1) = m ((c.tc : Thread Cert.Cmp.nD Cert.Cmp.τ).loc Cert.Cmp.main_arg1)
      ∧ r.2.mem ((c.tc : Thread Cert.Cmp.nD Cert.Cmp.τ).loc Cert.Cmp.main_arg2) = m ((c.tc : Thread Cert.Cmp.nD Cert.Cmp.τ).loc Cert.Cmp.main_arg2))
      ∧ r.2.sem = fun _ => 0)

def quiescent_CmpIdeal [hCmpIdeal : Cert.CmpIdeal.Facts] : Prop :=
  ∀ (m : (ℓ : Loc Cert.CmpIdeal.nD Cert.CmpIdeal.τ Cert.CmpIdeal.sig) → Buf (Elt Ideal) ℓ) (g : Dev Cert.CmpIdeal.nD → PrngReg), Pre_CmpIdeal m →
    θ_run (Cert.CmpIdeal.defs (F := Ideal)) (onTc (τ := Cert.CmpIdeal.τ) (Cert.CmpIdeal.main (F := Ideal))) ⟨m, fun _ => 0, g⟩ (fun r => (∀ c : Dev Cert.CmpIdeal.nD,
      r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
      ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
      ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2))
      ∧ r.2.sem = fun _ => 0)

def quiescent_CmpIdeal_pre_finite_cmp [hCmpIdeal : Cert.CmpIdeal.Facts] [hPre_finite_cmp : Cert.Pre_finite_cmp.Facts] : Prop :=
  ∀ (m : (ℓ : Loc Cert.CmpIdeal.nD Cert.CmpIdeal.τ Cert.CmpIdeal.sig) → Buf (Elt Ideal) ℓ) (g : Dev Cert.CmpIdeal.nD → PrngReg), Pre_CmpIdeal_finite_cmp m →
    θ_run (Cert.CmpIdeal.defs (F := Ideal)) (onTc (τ := Cert.CmpIdeal.τ) (Cert.CmpIdeal.main (F := Ideal))) ⟨m, fun _ => 0, g⟩ (fun r => (∀ c : Dev Cert.CmpIdeal.nD,
      r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
      ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
      ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2))
      ∧ r.2.sem = fun _ => 0)

def quiescent_CmpRefIdeal [hCmpRefIdeal : Cert.CmpRefIdeal.Facts] : Prop :=
  ∀ (m : (ℓ : Loc Cert.CmpRefIdeal.nD Cert.CmpRefIdeal.τ Cert.CmpRefIdeal.sig) → Buf (Elt Ideal) ℓ) (g : Dev Cert.CmpRefIdeal.nD → PrngReg), Pre_CmpRefIdeal m →
    θ_run (Cert.CmpRefIdeal.defs (F := Ideal)) (onTc (τ := Cert.CmpRefIdeal.τ) (Cert.CmpRefIdeal.main (F := Ideal))) ⟨m, fun _ => 0, g⟩ (fun r => (∀ c : Dev Cert.CmpRefIdeal.nD,
      r.2.mem ((c.tc : Thread Cert.CmpRefIdeal.nD Cert.CmpRefIdeal.τ).loc Cert.CmpRefIdeal.main_arg0) = m ((c.tc : Thread Cert.CmpRefIdeal.nD Cert.CmpRefIdeal.τ).loc Cert.CmpRefIdeal.main_arg0)
      ∧ r.2.mem ((c.tc : Thread Cert.CmpRefIdeal.nD Cert.CmpRefIdeal.τ).loc Cert.CmpRefIdeal.main_arg1) = m ((c.tc : Thread Cert.CmpRefIdeal.nD Cert.CmpRefIdeal.τ).loc Cert.CmpRefIdeal.main_arg1)
      ∧ r.2.mem ((c.tc : Thread Cert.CmpRefIdeal.nD Cert.CmpRefIdeal.τ).loc Cert.CmpRefIdeal.main_arg2) = m ((c.tc : Thread Cert.CmpRefIdeal.nD Cert.CmpRefIdeal.τ).loc Cert.CmpRefIdeal.main_arg2))
      ∧ r.2.sem = fun _ => 0)

def quiescent_CmpRefIdeal_pre_finite_cmp [hCmpRefIdeal : Cert.CmpRefIdeal.Facts] [hPre_finite_cmp : Cert.Pre_finite_cmp.Facts] : Prop :=
  ∀ (m : (ℓ : Loc Cert.CmpRefIdeal.nD Cert.CmpRefIdeal.τ Cert.CmpRefIdeal.sig) → Buf (Elt Ideal) ℓ) (g : Dev Cert.CmpRefIdeal.nD → PrngReg), Pre_CmpRefIdeal_finite_cmp m →
    θ_run (Cert.CmpRefIdeal.defs (F := Ideal)) (onTc (τ := Cert.CmpRefIdeal.τ) (Cert.CmpRefIdeal.main (F := Ideal))) ⟨m, fun _ => 0, g⟩ (fun r => (∀ c : Dev Cert.CmpRefIdeal.nD,
      r.2.mem ((c.tc : Thread Cert.CmpRefIdeal.nD Cert.CmpRefIdeal.τ).loc Cert.CmpRefIdeal.main_arg0) = m ((c.tc : Thread Cert.CmpRefIdeal.nD Cert.CmpRefIdeal.τ).loc Cert.CmpRefIdeal.main_arg0)
      ∧ r.2.mem ((c.tc : Thread Cert.CmpRefIdeal.nD Cert.CmpRefIdeal.τ).loc Cert.CmpRefIdeal.main_arg1) = m ((c.tc : Thread Cert.CmpRefIdeal.nD Cert.CmpRefIdeal.τ).loc Cert.CmpRefIdeal.main_arg1)
      ∧ r.2.mem ((c.tc : Thread Cert.CmpRefIdeal.nD Cert.CmpRefIdeal.τ).loc Cert.CmpRefIdeal.main_arg2) = m ((c.tc : Thread Cert.CmpRefIdeal.nD Cert.CmpRefIdeal.τ).loc Cert.CmpRefIdeal.main_arg2))
      ∧ r.2.sem = fun _ => 0)

def preserves_Win_WinIdeal : Prop :=
  IdealRules.named_const.Statement Cert.WinIdeal.κ "mask" .f32 0xF149F2CA#32 ⊥

def algebraic_WinIdeal_WinRefIdeal_pre_finite [hWinIdeal : Cert.WinIdeal.Facts] [hWinRefIdeal : Cert.WinRefIdeal.Facts] [hPre_finite : Cert.Pre_finite.Facts] : Prop :=
  ∀ (m : (ℓ : Loc Cert.WinIdeal.nD Cert.WinIdeal.τ Cert.WinIdeal.sig) → Buf (Elt Ideal) ℓ) (g : Dev Cert.WinIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinIdeal_finite m →
    (∀ c : Dev Cert.WinIdeal.nD,
      m' ((c.tc : Thread Cert.WinRefIdeal.nD Cert.WinRefIdeal.τ).loc Cert.WinRefIdeal.main_arg0) = m ((c.tc : Thread Cert.WinIdeal.nD Cert.WinIdeal.τ).loc Cert.WinIdeal.main_arg0)
      ∧ m' ((c.tc : Thread Cert.WinRefIdeal.nD Cert.WinRefIdeal.τ).loc Cert.WinRefIdeal.main_arg1) = m ((c.tc : Thread Cert.WinIdeal.nD Cert.WinIdeal.τ).loc Cert.WinIdeal.main_arg1)
      ∧ m' ((c.tc : Thread Cert.WinRefIdeal.nD Cert.WinRefIdeal.τ).loc Cert.WinRefIdeal.main_arg2) = m ((c.tc : Thread Cert.WinIdeal.nD Cert.WinIdeal.τ).loc Cert.WinIdeal.main_arg2)) →
    ∃ (v0 : (c : Dev Cert.WinIdeal.nD) → Buf (Elt Ideal) ((c.tc : Thread Cert.WinIdeal.nD Cert.WinIdeal.τ).loc Cert.WinIdeal.main_v2)),
      θ_run (Cert.WinIdeal.defs (F := Ideal)) (onTc (τ := Cert.WinIdeal.τ) (Cert.WinIdeal.main (F := Ideal))) ⟨m, fun _ => 0, g⟩ (fun r => ∀ c : Dev Cert.WinIdeal.nD,
          r.2.mem ((c.tc : Thread Cert.WinIdeal.nD Cert.WinIdeal.τ).loc Cert.WinIdeal.main_v2) = v0 c
          ∧ r.2.mem ((c.tc : Thread Cert.WinIdeal.nD Cert.WinIdeal.τ).loc Cert.WinIdeal.main_arg0) = m ((c.tc : Thread Cert.WinIdeal.nD Cert.WinIdeal.τ).loc Cert.WinIdeal.main_arg0)
          ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
          ∧ r.2.mem ((c.tc : Thread Cert.WinIdeal.nD Cert.WinIdeal.τ).loc Cert.WinIdeal.main_arg2) = m ((c.tc : Thread Cert.WinIdeal.nD Cert.WinIdeal.τ).loc Cert.WinIdeal.main_arg2))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v37) = v0 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0)
          ∧ r.2.mem ((c.tc : Thread Cert.WinRefIdeal.nD Cert.WinRefIdeal.τ).loc Cert.WinRefIdeal.main_arg1) = m' ((c.tc : Thread Cert.WinRefIdeal.nD Cert.WinRefIdeal.τ).loc Cert.WinRefIdeal.main_arg1)
          ∧ r.2.mem ((c.tc : Thread Cert.WinRefIdeal.nD Cert.WinRefIdeal.τ).loc Cert.WinRefIdeal.main_arg2) = m' ((c.tc : Thread Cert.WinRefIdeal.nD Cert.WinRefIdeal.τ).loc Cert.WinRefIdeal.main_arg2))

def preserves_ProjQ_ProjQIdeal : Prop :=
  True

def algebraic_ProjQIdeal_ProjQRefIdeal [hProjQIdeal : Cert.ProjQIdeal.Facts] [hProjQRefIdeal : Cert.ProjQRefIdeal.Facts] : Prop :=
  ∀ (m : (ℓ : Loc Cert.ProjQIdeal.nD Cert.ProjQIdeal.τ Cert.ProjQIdeal.sig) → Buf (Elt Ideal) ℓ) (g : Dev Cert.ProjQIdeal.nD → PrngReg)
    (m' : (ℓ : Loc Cert.ProjQRefIdeal.nD Cert.ProjQRefIdeal.τ Cert.ProjQRefIdeal.sig) → Buf (Elt Ideal) ℓ) (g' : Dev Cert.ProjQRefIdeal.nD → PrngReg), Pre_ProjQIdeal m →
    (∀ c : Dev Cert.ProjQIdeal.nD,
      m' ((c.tc : Thread Cert.ProjQRefIdeal.nD Cert.ProjQRefIdeal.τ).loc Cert.ProjQRefIdeal.main_arg0) = m ((c.tc : Thread Cert.ProjQIdeal.nD Cert.ProjQIdeal.τ).loc Cert.ProjQIdeal.main_arg0)
      ∧ m' ((c.tc : Thread Cert.ProjQRefIdeal.nD Cert.ProjQRefIdeal.τ).loc Cert.ProjQRefIdeal.main_arg1) = m ((c.tc : Thread Cert.ProjQIdeal.nD Cert.ProjQIdeal.τ).loc Cert.ProjQIdeal.main_arg1)) →
    ∃ (v0 : (c : Dev Cert.ProjQIdeal.nD) → Buf (Elt Ideal) ((c.tc : Thread Cert.ProjQIdeal.nD Cert.ProjQIdeal.τ).loc Cert.ProjQIdeal.main_v1)),
      θ_run (Cert.ProjQIdeal.defs (F := Ideal)) (onTc (τ := Cert.ProjQIdeal.τ) (Cert.ProjQIdeal.main (F := Ideal))) ⟨m, fun _ => 0, g⟩ (fun r => ∀ c : Dev Cert.ProjQIdeal.nD,
          r.2.mem ((c.tc : Thread Cert.ProjQIdeal.nD Cert.ProjQIdeal.τ).loc Cert.ProjQIdeal.main_v1) = v0 c
          ∧ r.2.mem ((c.tc : Thread Cert.ProjQIdeal.nD Cert.ProjQIdeal.τ).loc Cert.ProjQIdeal.main_arg0) = m ((c.tc : Thread Cert.ProjQIdeal.nD Cert.ProjQIdeal.τ).loc Cert.ProjQIdeal.main_arg0)
          ∧ r.2.mem ((c.tc : Thread Cert.ProjQIdeal.nD Cert.ProjQIdeal.τ).loc Cert.ProjQIdeal.main_arg1) = m ((c.tc : Thread Cert.ProjQIdeal.nD Cert.ProjQIdeal.τ).loc Cert.ProjQIdeal.main_arg1))
      ∧ θ_run (Cert.ProjQRefIdeal.defs (F := Ideal)) (onTc (τ := Cert.ProjQRefIdeal.τ) (Cert.ProjQRefIdeal.main (F := Ideal))) ⟨m', fun _ => 0, g'⟩ (fun r => ∀ c : Dev Cert.ProjQRefIdeal.nD,
          r.2.mem ((c.tc : Thread Cert.ProjQRefIdeal.nD Cert.ProjQRefIdeal.τ).loc Cert.ProjQRefIdeal.main_v2) = v0 c
          ∧ r.2.mem ((c.tc : Thread Cert.ProjQRefIdeal.nD Cert.ProjQRefIdeal.τ).loc Cert.ProjQRefIdeal.main_arg0) = m' ((c.tc : Thread Cert.ProjQRefIdeal.nD Cert.ProjQRefIdeal.τ).loc Cert.ProjQRefIdeal.main_arg0)
          ∧ r.2.mem ((c.tc : Thread Cert.ProjQRefIdeal.nD Cert.ProjQRefIdeal.τ).loc Cert.ProjQRefIdeal.main_arg1) = m' ((c.tc : Thread Cert.ProjQRefIdeal.nD Cert.ProjQRefIdeal.τ).loc Cert.ProjQRefIdeal.main_arg1))

def preserves_ProjKv_ProjKvIdeal : Prop :=
  True

def algebraic_ProjKvIdeal_ProjKvRefIdeal [hProjKvIdeal : Cert.ProjKvIdeal.Facts] [hProjKvRefIdeal : Cert.ProjKvRefIdeal.Facts] : Prop :=
  ∀ (m : (ℓ : Loc Cert.ProjKvIdeal.nD Cert.ProjKvIdeal.τ Cert.ProjKvIdeal.sig) → Buf (Elt Ideal) ℓ) (g : Dev Cert.ProjKvIdeal.nD → PrngReg)
    (m' : (ℓ : Loc Cert.ProjKvRefIdeal.nD Cert.ProjKvRefIdeal.τ Cert.ProjKvRefIdeal.sig) → Buf (Elt Ideal) ℓ) (g' : Dev Cert.ProjKvRefIdeal.nD → PrngReg), Pre_ProjKvIdeal m →
    (∀ c : Dev Cert.ProjKvIdeal.nD,
      m' ((c.tc : Thread Cert.ProjKvRefIdeal.nD Cert.ProjKvRefIdeal.τ).loc Cert.ProjKvRefIdeal.main_arg0) = m ((c.tc : Thread Cert.ProjKvIdeal.nD Cert.ProjKvIdeal.τ).loc Cert.ProjKvIdeal.main_arg0)
      ∧ m' ((c.tc : Thread Cert.ProjKvRefIdeal.nD Cert.ProjKvRefIdeal.τ).loc Cert.ProjKvRefIdeal.main_arg1) = m ((c.tc : Thread Cert.ProjKvIdeal.nD Cert.ProjKvIdeal.τ).loc Cert.ProjKvIdeal.main_arg1)) →
    ∃ (v0 : (c : Dev Cert.ProjKvIdeal.nD) → Buf (Elt Ideal) ((c.tc : Thread Cert.ProjKvIdeal.nD Cert.ProjKvIdeal.τ).loc Cert.ProjKvIdeal.main_v1)),
      θ_run (Cert.ProjKvIdeal.defs (F := Ideal)) (onTc (τ := Cert.ProjKvIdeal.τ) (Cert.ProjKvIdeal.main (F := Ideal))) ⟨m, fun _ => 0, g⟩ (fun r => ∀ c : Dev Cert.ProjKvIdeal.nD,
          r.2.mem ((c.tc : Thread Cert.ProjKvIdeal.nD Cert.ProjKvIdeal.τ).loc Cert.ProjKvIdeal.main_v1) = v0 c
          ∧ r.2.mem ((c.tc : Thread Cert.ProjKvIdeal.nD Cert.ProjKvIdeal.τ).loc Cert.ProjKvIdeal.main_arg0) = m ((c.tc : Thread Cert.ProjKvIdeal.nD Cert.ProjKvIdeal.τ).loc Cert.ProjKvIdeal.main_arg0)
          ∧ r.2.mem ((c.tc : Thread Cert.ProjKvIdeal.nD Cert.ProjKvIdeal.τ).loc Cert.ProjKvIdeal.main_arg1) = m ((c.tc : Thread Cert.ProjKvIdeal.nD Cert.ProjKvIdeal.τ).loc Cert.ProjKvIdeal.main_arg1))
      ∧ θ_run (Cert.ProjKvRefIdeal.defs (F := Ideal)) (onTc (τ := Cert.ProjKvRefIdeal.τ) (Cert.ProjKvRefIdeal.main (F := Ideal))) ⟨m', fun _ => 0, g'⟩ (fun r => ∀ c : Dev Cert.ProjKvRefIdeal.nD,
          r.2.mem ((c.tc : Thread Cert.ProjKvRefIdeal.nD Cert.ProjKvRefIdeal.τ).loc Cert.ProjKvRefIdeal.main_v2) = v0 c
          ∧ r.2.mem ((c.tc : Thread Cert.ProjKvRefIdeal.nD Cert.ProjKvRefIdeal.τ).loc Cert.ProjKvRefIdeal.main_arg0) = m' ((c.tc : Thread Cert.ProjKvRefIdeal.nD Cert.ProjKvRefIdeal.τ).loc Cert.ProjKvRefIdeal.main_arg0)
          ∧ r.2.mem ((c.tc : Thread Cert.ProjKvRefIdeal.nD Cert.ProjKvRefIdeal.τ).loc Cert.ProjKvRefIdeal.main_arg1) = m' ((c.tc : Thread Cert.ProjKvRefIdeal.nD Cert.ProjKvRefIdeal.τ).loc Cert.ProjKvRefIdeal.main_arg1))

def preserves_ProjXbc_ProjXbcIdeal : Prop :=
  True

def algebraic_ProjXbcIdeal_ProjXbcRefIdeal [hProjXbcIdeal : Cert.ProjXbcIdeal.Facts] [hProjXbcRefIdeal : Cert.ProjXbcRefIdeal.Facts] : Prop :=
  ∀ (m : (ℓ : Loc Cert.ProjXbcIdeal.nD Cert.ProjXbcIdeal.τ Cert.ProjXbcIdeal.sig) → Buf (Elt Ideal) ℓ) (g : Dev Cert.ProjXbcIdeal.nD → PrngReg)
    (m' : (ℓ : Loc Cert.ProjXbcRefIdeal.nD Cert.ProjXbcRefIdeal.τ Cert.ProjXbcRefIdeal.sig) → Buf (Elt Ideal) ℓ) (g' : Dev Cert.ProjXbcRefIdeal.nD → PrngReg), Pre_ProjXbcIdeal m →
    (∀ c : Dev Cert.ProjXbcIdeal.nD,
      m' ((c.tc : Thread Cert.ProjXbcRefIdeal.nD Cert.ProjXbcRefIdeal.τ).loc Cert.ProjXbcRefIdeal.main_arg0) = m ((c.tc : Thread Cert.ProjXbcIdeal.nD Cert.ProjXbcIdeal.τ).loc Cert.ProjXbcIdeal.main_arg0)
      ∧ m' ((c.tc : Thread Cert.ProjXbcRefIdeal.nD Cert.ProjXbcRefIdeal.τ).loc Cert.ProjXbcRefIdeal.main_arg1) = m ((c.tc : Thread Cert.ProjXbcIdeal.nD Cert.ProjXbcIdeal.τ).loc Cert.ProjXbcIdeal.main_arg1)) →
    ∃ (v0 : (c : Dev Cert.ProjXbcIdeal.nD) → Buf (Elt Ideal) ((c.tc : Thread Cert.ProjXbcIdeal.nD Cert.ProjXbcIdeal.τ).loc Cert.ProjXbcIdeal.main_v1)),
      θ_run (Cert.ProjXbcIdeal.defs (F := Ideal)) (onTc (τ := Cert.ProjXbcIdeal.τ) (Cert.ProjXbcIdeal.main (F := Ideal))) ⟨m, fun _ => 0, g⟩ (fun r => ∀ c : Dev Cert.ProjXbcIdeal.nD,
          r.2.mem ((c.tc : Thread Cert.ProjXbcIdeal.nD Cert.ProjXbcIdeal.τ).loc Cert.ProjXbcIdeal.main_v1) = v0 c
          ∧ r.2.mem ((c.tc : Thread Cert.ProjXbcIdeal.nD Cert.ProjXbcIdeal.τ).loc Cert.ProjXbcIdeal.main_arg0) = m ((c.tc : Thread Cert.ProjXbcIdeal.nD Cert.ProjXbcIdeal.τ).loc Cert.ProjXbcIdeal.main_arg0)
          ∧ r.2.mem ((c.tc : Thread Cert.ProjXbcIdeal.nD Cert.ProjXbcIdeal.τ).loc Cert.ProjXbcIdeal.main_arg1) = m ((c.tc : Thread Cert.ProjXbcIdeal.nD Cert.ProjXbcIdeal.τ).loc Cert.ProjXbcIdeal.main_arg1))
      ∧ θ_run (Cert.ProjXbcRefIdeal.defs (F := Ideal)) (onTc (τ := Cert.ProjXbcRefIdeal.τ) (Cert.ProjXbcRefIdeal.main (F := Ideal))) ⟨m', fun _ => 0, g'⟩ (fun r => ∀ c : Dev Cert.ProjXbcRefIdeal.nD,
          r.2.mem ((c.tc : Thread Cert.ProjXbcRefIdeal.nD Cert.ProjXbcRefIdeal.τ).loc Cert.ProjXbcRefIdeal.main_v2) = v0 c
          ∧ r.2.mem ((c.tc : Thread Cert.ProjXbcRefIdeal.nD Cert.ProjXbcRefIdeal.τ).loc Cert.ProjXbcRefIdeal.main_arg0) = m' ((c.tc : Thread Cert.ProjXbcRefIdeal.nD Cert.ProjXbcRefIdeal.τ).loc Cert.ProjXbcRefIdeal.main_arg0)
          ∧ r.2.mem ((c.tc : Thread Cert.ProjXbcRefIdeal.nD Cert.ProjXbcRefIdeal.τ).loc Cert.ProjXbcRefIdeal.main_arg1) = m' ((c.tc : Thread Cert.ProjXbcRefIdeal.nD Cert.ProjXbcRefIdeal.τ).loc Cert.ProjXbcRefIdeal.main_arg1))

def preserves_ProjMg_ProjMgIdeal : Prop :=
  True

def algebraic_ProjMgIdeal_ProjMgRefIdeal [hProjMgIdeal : Cert.ProjMgIdeal.Facts] [hProjMgRefIdeal : Cert.ProjMgRefIdeal.Facts] : Prop :=
  ∀ (m : (ℓ : Loc Cert.ProjMgIdeal.nD Cert.ProjMgIdeal.τ Cert.ProjMgIdeal.sig) → Buf (Elt Ideal) ℓ) (g : Dev Cert.ProjMgIdeal.nD → PrngReg)
    (m' : (ℓ : Loc Cert.ProjMgRefIdeal.nD Cert.ProjMgRefIdeal.τ Cert.ProjMgRefIdeal.sig) → Buf (Elt Ideal) ℓ) (g' : Dev Cert.ProjMgRefIdeal.nD → PrngReg), Pre_ProjMgIdeal m →
    (∀ c : Dev Cert.ProjMgIdeal.nD,
      m' ((c.tc : Thread Cert.ProjMgRefIdeal.nD Cert.ProjMgRefIdeal.τ).loc Cert.ProjMgRefIdeal.main_arg0) = m ((c.tc : Thread Cert.ProjMgIdeal.nD Cert.ProjMgIdeal.τ).loc Cert.ProjMgIdeal.main_arg0)
      ∧ m' ((c.tc : Thread Cert.ProjMgRefIdeal.nD Cert.ProjMgRefIdeal.τ).loc Cert.ProjMgRefIdeal.main_arg1) = m ((c.tc : Thread Cert.ProjMgIdeal.nD Cert.ProjMgIdeal.τ).loc Cert.ProjMgIdeal.main_arg1)) →
    ∃ (v0 : (c : Dev Cert.ProjMgIdeal.nD) → Buf (Elt Ideal) ((c.tc : Thread Cert.ProjMgIdeal.nD Cert.ProjMgIdeal.τ).loc Cert.ProjMgIdeal.main_v1)),
      θ_run (Cert.ProjMgIdeal.defs (F := Ideal)) (onTc (τ := Cert.ProjMgIdeal.τ) (Cert.ProjMgIdeal.main (F := Ideal))) ⟨m, fun _ => 0, g⟩ (fun r => ∀ c : Dev Cert.ProjMgIdeal.nD,
          r.2.mem ((c.tc : Thread Cert.ProjMgIdeal.nD Cert.ProjMgIdeal.τ).loc Cert.ProjMgIdeal.main_v1) = v0 c
          ∧ r.2.mem ((c.tc : Thread Cert.ProjMgIdeal.nD Cert.ProjMgIdeal.τ).loc Cert.ProjMgIdeal.main_arg0) = m ((c.tc : Thread Cert.ProjMgIdeal.nD Cert.ProjMgIdeal.τ).loc Cert.ProjMgIdeal.main_arg0)
          ∧ r.2.mem ((c.tc : Thread Cert.ProjMgIdeal.nD Cert.ProjMgIdeal.τ).loc Cert.ProjMgIdeal.main_arg1) = m ((c.tc : Thread Cert.ProjMgIdeal.nD Cert.ProjMgIdeal.τ).loc Cert.ProjMgIdeal.main_arg1))
      ∧ θ_run (Cert.ProjMgRefIdeal.defs (F := Ideal)) (onTc (τ := Cert.ProjMgRefIdeal.τ) (Cert.ProjMgRefIdeal.main (F := Ideal))) ⟨m', fun _ => 0, g'⟩ (fun r => ∀ c : Dev Cert.ProjMgRefIdeal.nD,
          r.2.mem ((c.tc : Thread Cert.ProjMgRefIdeal.nD Cert.ProjMgRefIdeal.τ).loc Cert.ProjMgRefIdeal.main_v2) = v0 c
          ∧ r.2.mem ((c.tc : Thread Cert.ProjMgRefIdeal.nD Cert.ProjMgRefIdeal.τ).loc Cert.ProjMgRefIdeal.main_arg0) = m' ((c.tc : Thread Cert.ProjMgRefIdeal.nD Cert.ProjMgRefIdeal.τ).loc Cert.ProjMgRefIdeal.main_arg0)
          ∧ r.2.mem ((c.tc : Thread Cert.ProjMgRefIdeal.nD Cert.ProjMgRefIdeal.τ).loc Cert.ProjMgRefIdeal.main_arg1) = m' ((c.tc : Thread Cert.ProjMgRefIdeal.nD Cert.ProjMgRefIdeal.τ).loc Cert.ProjMgRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v2) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v57) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_Cmp_CmpIdeal : Prop :=
  IdealRules.named_const.Statement Cert.CmpIdeal.κ "mask" .f32 0xF149F2CA#32 ⊥

def algebraic_CmpIdeal_CmpRefIdeal_pre_finite_cmp [hCmpIdeal : Cert.CmpIdeal.Facts] [hCmpRefIdeal : Cert.CmpRefIdeal.Facts] [hPre_finite_cmp : Cert.Pre_finite_cmp.Facts] : Prop :=
  ∀ (m : (ℓ : Loc Cert.CmpIdeal.nD Cert.CmpIdeal.τ Cert.CmpIdeal.sig) → Buf (Elt Ideal) ℓ) (g : Dev Cert.CmpIdeal.nD → PrngReg)
    (m' : (ℓ : Loc Cert.CmpRefIdeal.nD Cert.CmpRefIdeal.τ Cert.CmpRefIdeal.sig) → Buf (Elt Ideal) ℓ) (g' : Dev Cert.CmpRefIdeal.nD → PrngReg), Pre_CmpIdeal_finite_cmp m →
    (∀ c : Dev Cert.CmpIdeal.nD,
      m' ((c.tc : Thread Cert.CmpRefIdeal.nD Cert.CmpRefIdeal.τ).loc Cert.CmpRefIdeal.main_arg0) = m ((c.tc : Thread Cert.CmpIdeal.nD Cert.CmpIdeal.τ).loc Cert.CmpIdeal.main_arg0)
      ∧ m' ((c.tc : Thread Cert.CmpRefIdeal.nD Cert.CmpRefIdeal.τ).loc Cert.CmpRefIdeal.main_arg1) = m ((c.tc : Thread Cert.CmpIdeal.nD Cert.CmpIdeal.τ).loc Cert.CmpIdeal.main_arg1)
      ∧ m' ((c.tc : Thread Cert.CmpRefIdeal.nD Cert.CmpRefIdeal.τ).loc Cert.CmpRefIdeal.main_arg2) = m ((c.tc : Thread Cert.CmpIdeal.nD Cert.CmpIdeal.τ).loc Cert.CmpIdeal.main_arg2)) →
    ∃ (v0 : (c : Dev Cert.CmpIdeal.nD) → Buf (Elt Ideal) ((c.tc : Thread Cert.CmpIdeal.nD Cert.CmpIdeal.τ).loc Cert.CmpIdeal.main_v31_0)) (v1 : (c : Dev Cert.CmpIdeal.nD) → Buf (Elt Ideal) ((c.tc : Thread Cert.CmpIdeal.nD Cert.CmpIdeal.τ).loc Cert.CmpIdeal.main_v31_1)),
      θ_run (Cert.CmpIdeal.defs (F := Ideal)) (onTc (τ := Cert.CmpIdeal.τ) (Cert.CmpIdeal.main (F := Ideal))) ⟨m, fun _ => 0, g⟩ (fun r => ∀ c : Dev Cert.CmpIdeal.nD,
          r.2.mem ((c.tc : Thread Cert.CmpIdeal.nD Cert.CmpIdeal.τ).loc Cert.CmpIdeal.main_v31_0) = v0 c
          ∧ r.2.mem ((c.tc : Thread Cert.CmpIdeal.nD Cert.CmpIdeal.τ).loc Cert.CmpIdeal.main_v31_1) = v1 c
          ∧ r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
          ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
          ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2))
      ∧ θ_run (Cert.CmpRefIdeal.defs (F := Ideal)) (onTc (τ := Cert.CmpRefIdeal.τ) (Cert.CmpRefIdeal.main (F := Ideal))) ⟨m', fun _ => 0, g'⟩ (fun r => ∀ c : Dev Cert.CmpRefIdeal.nD,
          r.2.mem ((c.tc : Thread Cert.CmpRefIdeal.nD Cert.CmpRefIdeal.τ).loc Cert.CmpRefIdeal.main_v104) = v0 c
          ∧ r.2.mem ((c.tc : Thread Cert.CmpRefIdeal.nD Cert.CmpRefIdeal.τ).loc Cert.CmpRefIdeal.main_v105) = v1 c
          ∧ r.2.mem ((c.tc : Thread Cert.CmpRefIdeal.nD Cert.CmpRefIdeal.τ).loc Cert.CmpRefIdeal.main_arg0) = m' ((c.tc : Thread Cert.CmpRefIdeal.nD Cert.CmpRefIdeal.τ).loc Cert.CmpRefIdeal.main_arg0)
          ∧ r.2.mem ((c.tc : Thread Cert.CmpRefIdeal.nD Cert.CmpRefIdeal.τ).loc Cert.CmpRefIdeal.main_arg1) = m' ((c.tc : Thread Cert.CmpRefIdeal.nD Cert.CmpRefIdeal.τ).loc Cert.CmpRefIdeal.main_arg1)
          ∧ r.2.mem ((c.tc : Thread Cert.CmpRefIdeal.nD Cert.CmpRefIdeal.τ).loc Cert.CmpRefIdeal.main_arg2) = m' ((c.tc : Thread Cert.CmpRefIdeal.nD Cert.CmpRefIdeal.τ).loc Cert.CmpRefIdeal.main_arg2))

def Claim : Prop :=
  ∃ (hWin : Cert.Win.Facts) (hWinIdeal : Cert.WinIdeal.Facts) (hWinRefIdeal : Cert.WinRefIdeal.Facts) (hProjQ : Cert.ProjQ.Facts) (hProjQIdeal : Cert.ProjQIdeal.Facts) (hProjQRefIdeal : Cert.ProjQRefIdeal.Facts) (hProjKv : Cert.ProjKv.Facts) (hProjKvIdeal : Cert.ProjKvIdeal.Facts) (hProjKvRefIdeal : Cert.ProjKvRefIdeal.Facts) (hProjXbc : Cert.ProjXbc.Facts) (hProjXbcIdeal : Cert.ProjXbcIdeal.Facts) (hProjXbcRefIdeal : Cert.ProjXbcRefIdeal.Facts) (hProjMg : Cert.ProjMg.Facts) (hProjMgIdeal : Cert.ProjMgIdeal.Facts) (hProjMgRefIdeal : Cert.ProjMgRefIdeal.Facts) (hMerge : Cert.Merge.Facts) (hMergeIdeal : Cert.MergeIdeal.Facts) (hMergeRefIdeal : Cert.MergeRefIdeal.Facts) (hCmp : Cert.Cmp.Facts) (hCmpIdeal : Cert.CmpIdeal.Facts) (hCmpRefIdeal : Cert.CmpRefIdeal.Facts) (hPre_finite : Cert.Pre_finite.Facts) (hPre_finite_cmp : Cert.Pre_finite_cmp.Facts),
    quiescent_Win (hWin := hWin)
    ∧ quiescent_WinIdeal (hWinIdeal := hWinIdeal)
    ∧ quiescent_WinIdeal_pre_finite (hWinIdeal := hWinIdeal) (hPre_finite := hPre_finite)
    ∧ quiescent_WinRefIdeal (hWinRefIdeal := hWinRefIdeal)
    ∧ quiescent_WinRefIdeal_pre_finite (hWinRefIdeal := hWinRefIdeal) (hPre_finite := hPre_finite)
    ∧ quiescent_ProjQ (hProjQ := hProjQ)
    ∧ quiescent_ProjQIdeal (hProjQIdeal := hProjQIdeal)
    ∧ quiescent_ProjQRefIdeal (hProjQRefIdeal := hProjQRefIdeal)
    ∧ quiescent_ProjKv (hProjKv := hProjKv)
    ∧ quiescent_ProjKvIdeal (hProjKvIdeal := hProjKvIdeal)
    ∧ quiescent_ProjKvRefIdeal (hProjKvRefIdeal := hProjKvRefIdeal)
    ∧ quiescent_ProjXbc (hProjXbc := hProjXbc)
    ∧ quiescent_ProjXbcIdeal (hProjXbcIdeal := hProjXbcIdeal)
    ∧ quiescent_ProjXbcRefIdeal (hProjXbcRefIdeal := hProjXbcRefIdeal)
    ∧ quiescent_ProjMg (hProjMg := hProjMg)
    ∧ quiescent_ProjMgIdeal (hProjMgIdeal := hProjMgIdeal)
    ∧ quiescent_ProjMgRefIdeal (hProjMgRefIdeal := hProjMgRefIdeal)
    ∧ quiescent_Merge (hMerge := hMerge)
    ∧ quiescent_MergeIdeal (hMergeIdeal := hMergeIdeal)
    ∧ quiescent_MergeRefIdeal (hMergeRefIdeal := hMergeRefIdeal)
    ∧ quiescent_Cmp (hCmp := hCmp)
    ∧ quiescent_CmpIdeal (hCmpIdeal := hCmpIdeal)
    ∧ quiescent_CmpIdeal_pre_finite_cmp (hCmpIdeal := hCmpIdeal) (hPre_finite_cmp := hPre_finite_cmp)
    ∧ quiescent_CmpRefIdeal (hCmpRefIdeal := hCmpRefIdeal)
    ∧ quiescent_CmpRefIdeal_pre_finite_cmp (hCmpRefIdeal := hCmpRefIdeal) (hPre_finite_cmp := hPre_finite_cmp)
    ∧ preserves_Win_WinIdeal
    ∧ algebraic_WinIdeal_WinRefIdeal_pre_finite (hWinIdeal := hWinIdeal) (hWinRefIdeal := hWinRefIdeal) (hPre_finite := hPre_finite)
    ∧ preserves_ProjQ_ProjQIdeal
    ∧ algebraic_ProjQIdeal_ProjQRefIdeal (hProjQIdeal := hProjQIdeal) (hProjQRefIdeal := hProjQRefIdeal)
    ∧ preserves_ProjKv_ProjKvIdeal
    ∧ algebraic_ProjKvIdeal_ProjKvRefIdeal (hProjKvIdeal := hProjKvIdeal) (hProjKvRefIdeal := hProjKvRefIdeal)
    ∧ preserves_ProjXbc_ProjXbcIdeal
    ∧ algebraic_ProjXbcIdeal_ProjXbcRefIdeal (hProjXbcIdeal := hProjXbcIdeal) (hProjXbcRefIdeal := hProjXbcRefIdeal)
    ∧ preserves_ProjMg_ProjMgIdeal
    ∧ algebraic_ProjMgIdeal_ProjMgRefIdeal (hProjMgIdeal := hProjMgIdeal) (hProjMgRefIdeal := hProjMgRefIdeal)
    ∧ preserves_Merge_MergeIdeal
    ∧ algebraic_MergeIdeal_MergeRefIdeal (hMergeIdeal := hMergeIdeal) (hMergeRefIdeal := hMergeRefIdeal)
    ∧ preserves_Cmp_CmpIdeal
    ∧ algebraic_CmpIdeal_CmpRefIdeal_pre_finite_cmp (hCmpIdeal := hCmpIdeal) (hCmpRefIdeal := hCmpRefIdeal) (hPre_finite_cmp := hPre_finite_cmp)
-- ==== Pre_finite.lean ====
abbrev S4x16x8192x64 : Shape := ⟨4, ![4, 16, 8192, 64]⟩
abbrev S4x2x8192x64 : Shape := ⟨4, ![4, 2, 8192, 64]⟩
abbrev S4x2x8x8192x64 : Shape := ⟨5, ![4, 2, 8, 8192, 64]⟩
abbrev S_ : Shape := ⟨0, ![]⟩
abbrev S4x2x1x8192x64 : Shape := ⟨5, ![4, 2, 1, 8192, 64]⟩

class Facts : Prop where
  bitsLt_bf16_f32 : FTy.bits .bf16 < FTy.bits .f32
  shapeCasts_S4x16x8192x64_S4x2x8x8192x64 : S4x16x8192x64.ShapeCasts S4x2x8x8192x64
  bcast_S_S4x2x8x8192x64 : S_.BroadcastsInDim S4x2x8x8192x64 (![] : Fin 0 → Fin S4x2x8x8192x64.rank)
  bcast_S4x2x8192x64_S4x2x1x8192x64_0_1_3_4 : S4x2x8192x64.BroadcastsInDim S4x2x1x8192x64 (![0, 1, 3, 4] : Fin 4 → Fin S4x2x1x8192x64.rank)
  bcast_S_S4x2x1x8192x64 : S_.BroadcastsInDim S4x2x1x8192x64 (![] : Fin 0 → Fin S4x2x1x8192x64.rank)
  bcast_S4x2x1x8192x64_S4x2x8x8192x64_0_1_2_3_4 : S4x2x1x8192x64.BroadcastsInDim S4x2x8x8192x64 (![0, 1, 2, 3, 4] : Fin 5 → Fin S4x2x8x8192x64.rank)

variable [Facts]

def fn {F : FTy → Type} [FloatOps F] (main_arg0 : FVec F S4x16x8192x64 .bf16) (main_arg1 : FVec F S4x2x8192x64 .bf16) (main_arg2 : FVec F S4x2x8192x64 .bf16) : IVec S4x2x8x8192x64 1 :=
  let main_v0 : FVec F S4x16x8192x64 .f32 := (extf .f32 · bitsLt_bf16_f32) main_arg0
  let main_v1 : FVec F S4x2x8x8192x64 .f32 := shapeCast S4x2x8x8192x64 main_v0 shapeCasts_S4x16x8192x64_S4x2x8x8192x64
  let main_v2 : FVec F S4x2x8x8192x64 .f32 := Host.absf main_v1
  let main_cst : FVec F S_ .f32 := constant S_ .f32 0x7F800000#32
  let main_v3 : FVec F S4x2x8x8192x64 .f32 := broadcastInDim S4x2x8x8192x64 ![] bcast_S_S4x2x8x8192x64 main_cst
  let main_v4 : IVec S4x2x8x8192x64 1 := cmpf .olt main_v2 main_v3
  let main_v5 : FVec F S4x2x8192x64 .f32 := (extf .f32 · bitsLt_bf16_f32) main_arg1
  let main_v6 : FVec F S4x2x8192x64 .f32 := Host.absf main_v5
  let main_v7 : FVec F S4x2x1x8192x64 .f32 := broadcastInDim S4x2x1x8192x64 ![0, 1, 3, 4] bcast_S4x2x8192x64_S4x2x1x8192x64_0_1_3_4 main_v6
  let main_cst_0 : FVec F S_ .f32 := constant S_ .f32 0x7F800000#32
  let main_v8 : FVec F S4x2x1x8192x64 .f32 := broadcastInDim S4x2x1x8192x64 ![] bcast_S_S4x2x1x8192x64 main_cst_0
  let main_v9 : IVec S4x2x1x8192x64 1 := cmpf .olt main_v7 main_v8
  let main_v10 : IVec S4x2x8x8192x64 1 := broadcastInDim S4x2x8x8192x64 ![0, 1, 2, 3, 4] bcast_S4x2x1x8192x64_S4x2x8x8192x64_0_1_2_3_4 main_v9
  let main_v11 : IVec S4x2x8x8192x64 1 := andi main_v4 main_v10
  main_v11
-- ==== Pre_finite_cmp.lean ====
abbrev S4x16x8192x64 : Shape := ⟨4, ![4, 16, 8192, 64]⟩
abbrev S4x2x512x64 : Shape := ⟨4, ![4, 2, 512, 64]⟩
abbrev S4x2x8x16x512x64 : Shape := ⟨6, ![4, 2, 8, 16, 512, 64]⟩
abbrev S_ : Shape := ⟨0, ![]⟩
abbrev S4x2x1x1x512x64 : Shape := ⟨6, ![4, 2, 1, 1, 512, 64]⟩

class Facts : Prop where
  bitsLt_bf16_f32 : FTy.bits .bf16 < FTy.bits .f32
  shapeCasts_S4x16x8192x64_S4x2x8x16x512x64 : S4x16x8192x64.ShapeCasts S4x2x8x16x512x64
  bcast_S_S4x2x8x16x512x64 : S_.BroadcastsInDim S4x2x8x16x512x64 (![] : Fin 0 → Fin S4x2x8x16x512x64.rank)
  bcast_S4x2x512x64_S4x2x1x1x512x64_0_1_4_5 : S4x2x512x64.BroadcastsInDim S4x2x1x1x512x64 (![0, 1, 4, 5] : Fin 4 → Fin S4x2x1x1x512x64.rank)
  bcast_S_S4x2x1x1x512x64 : S_.BroadcastsInDim S4x2x1x1x512x64 (![] : Fin 0 → Fin S4x2x1x1x512x64.rank)
  bcast_S4x2x1x1x512x64_S4x2x8x16x512x64_0_1_2_3_4_5 : S4x2x1x1x512x64.BroadcastsInDim S4x2x8x16x512x64 (![0, 1, 2, 3, 4, 5] : Fin 6 → Fin S4x2x8x16x512x64.rank)

variable [Facts]

def fn {F : FTy → Type} [FloatOps F] (main_arg0 : FVec F S4x16x8192x64 .bf16) (main_arg1 : FVec F S4x2x512x64 .bf16) (main_arg2 : FVec F S4x2x512x64 .bf16) : IVec S4x2x8x16x512x64 1 :=
  let main_v0 : FVec F S4x16x8192x64 .f32 := (extf .f32 · bitsLt_bf16_f32) main_arg0
  let main_v1 : FVec F S4x2x8x16x512x64 .f32 := shapeCast S4x2x8x16x512x64 main_v0 shapeCasts_S4x16x8192x64_S4x2x8x16x512x64
  let main_v2 : FVec F S4x2x8x16x512x64 .f32 := Host.absf main_v1
  let main_cst : FVec F S_ .f32 := constant S_ .f32 0x7F800000#32
  let main_v3 : FVec F S4x2x8x16x512x64 .f32 := broadcastInDim S4x2x8x16x512x64 ![] bcast_S_S4x2x8x16x512x64 main_cst
  let main_v4 : IVec S4x2x8x16x512x64 1 := cmpf .olt main_v2 main_v3
  let main_v5 : FVec F S4x2x512x64 .f32 := (extf .f32 · bitsLt_bf16_f32) main_arg1
  let main_v6 : FVec F S4x2x512x64 .f32 := Host.absf main_v5
  let main_v7 : FVec F S4x2x1x1x512x64 .f32 := broadcastInDim S4x2x1x1x512x64 ![0, 1, 4, 5] bcast_S4x2x512x64_S4x2x1x1x512x64_0_1_4_5 main_v6
  let main_cst_0 : FVec F S_ .f32 := constant S_ .f32 0x7F800000#32
  let main_v8 : FVec F S4x2x1x1x512x64 .f32 := broadcastInDim S4x2x1x1x512x64 ![] bcast_S_S4x2x1x1x512x64 main_cst_0
  let main_v9 : IVec S4x2x1x1x512x64 1 := cmpf .olt main_v7 main_v8
  let main_v10 : IVec S4x2x8x16x512x64 1 := broadcastInDim S4x2x8x16x512x64 ![0, 1, 2, 3, 4, 5] bcast_S4x2x1x1x512x64_S4x2x8x16x512x64_0_1_2_3_4_5 main_v9
  let main_v11 : IVec S4x2x8x16x512x64 1 := andi main_v4 main_v10
  main_v11
-- ==== Win.lean ====
abbrev S4x16x8192x64 : Shape := ⟨4, ![4, 16, 8192, 64]⟩
abbrev S4x2x8192x64 : Shape := ⟨4, ![4, 2, 8192, 64]⟩
abbrev S_ : Shape := ⟨0, ![]⟩
abbrev S4x2x8704x64 : Shape := ⟨4, ![4, 2, 8704, 64]⟩
abbrev S1x8x256x64 : Shape := ⟨4, ![1, 8, 256, 64]⟩
abbrev S1x1x256x64 : Shape := ⟨4, ![1, 1, 256, 64]⟩
abbrev S256x64 : Shape := ⟨2, ![256, 64]⟩
abbrev S768x64 : Shape := ⟨2, ![768, 64]⟩
abbrev S8x256x64 : Shape := ⟨3, ![8, 256, 64]⟩
abbrev S2048x64 : Shape := ⟨2, ![2048, 64]⟩
abbrev S2048x768 : Shape := ⟨2, ![2048, 768]⟩
abbrev S256x768 : Shape := ⟨2, ![256, 768]⟩
abbrev S1x256x768 : Shape := ⟨3, ![1, 256, 768]⟩
abbrev S8x256x768 : Shape := ⟨3, ![8, 256, 768]⟩
abbrev S8x256 : Shape := ⟨2, ![8, 256]⟩
abbrev S8x256x1 : Shape := ⟨3, ![8, 256, 1]⟩

abbrev nBuf : Space → Nat
  | .hbm => 10
  | .vmem => 16
  | .smem => 0
  | _ => 0

abbrev bufTy : (tb : Table) → Fin (tcTables nBuf tb) → BufTy
  | .hbm, ⟨0, _⟩ => ⟨S4x16x8192x64, .bf16⟩
  | .hbm, ⟨1, _⟩ => ⟨S4x2x8192x64, .bf16⟩
  | .hbm, ⟨2, _⟩ => ⟨S4x2x8192x64, .bf16⟩
  | .hbm, ⟨3, _⟩ => ⟨S_, .i32⟩
  | .hbm, ⟨4, _⟩ => ⟨S_, .bf16⟩
  | .hbm, ⟨5, _⟩ => ⟨S4x2x8704x64, .bf16⟩
  | .hbm, ⟨6, _⟩ => ⟨S_, .i32⟩
  | .hbm, ⟨7, _⟩ => ⟨S_, .bf16⟩
  | .hbm, ⟨8, _⟩ => ⟨S4x2x8704x64, .bf16⟩
  | .hbm, ⟨9, _⟩ => ⟨S4x16x8192x64, .bf16⟩
  | .local _ .vmem, ⟨0, _⟩ => ⟨S1x8x256x64, .bf16⟩
  | .local _ .vmem, ⟨1, _⟩ => ⟨S1x8x256x64, .bf16⟩
  | .local _ .vmem, ⟨2, _⟩ => ⟨S1x1x256x64, .bf16⟩
  | .local _ .vmem, ⟨3, _⟩ => ⟨S1x1x256x64, .bf16⟩
  | .local _ .vmem, ⟨4, _⟩ => ⟨S1x1x256x64, .bf16⟩
  | .local _ .vmem, ⟨5, _⟩ => ⟨S1x1x256x64, .bf16⟩
  | .local _ .vmem, ⟨6, _⟩ => ⟨S1x1x256x64, .bf16⟩
  | .local _ .vmem, ⟨7, _⟩ => ⟨S1x1x256x64, .bf16⟩
  | .local _ .vmem, ⟨8, _⟩ => ⟨S1x1x256x64, .bf16⟩
  | .local _ .vmem, ⟨9, _⟩ => ⟨S1x1x256x64, .bf16⟩
  | .local _ .vmem, ⟨10, _⟩ => ⟨S1x1x256x64, .bf16⟩
  | .local _ .vmem, ⟨11, _⟩ => ⟨S1x1x256x64, .bf16⟩
  | .local _ .vmem, ⟨12, _⟩ => ⟨S1x1x256x64, .bf16⟩
  | .local _ .vmem, ⟨13, _⟩ => ⟨S1x1x256x64, .bf16⟩
  | .local _ .vmem, ⟨14, _⟩ => ⟨S1x8x256x64, .bf16⟩
  | .local _ .vmem, ⟨15, _⟩ => ⟨S1x8x256x64, .bf16⟩
  | _, _ => ⟨S4x16x8192x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![4, 2, 32], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  ![arg0.toNat, arg1.toNat, v0.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  let c0_i32_0 : BitVec 32 := 0#32
  ![arg0.toNat, arg1.toNat, v0.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c0_i32 : BitVec 32 := 0#32
  let c0_i32_0 : BitVec 32 := 0#32
  ![arg0.toNat, arg1.toNat, v0.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  ![arg0.toNat, arg1.toNat, v0.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  let c0_i32_0 : BitVec 32 := 0#32
  ![arg0.toNat, arg1.toNat, v0.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c0_i32 : BitVec 32 := 0#32
  let c0_i32_0 : BitVec 32 := 0#32
  ![arg0.toNat, arg1.toNat, v0.toNat, c0_i32.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x8x256x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x256x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x256x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x256x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x256x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x256x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x256x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x8x256x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== WinIdeal.lean ====
variable {F : FTy → Type} [FloatOps F] [Named F]
def κ : String → Option EReal := fun
  | "mask" => some ⊥
  | _ => none
-- ==== WinRefIdeal.lean ====
abbrev S4x16x8192x64 : Shape := ⟨4, ![4, 16, 8192, 64]⟩
abbrev S4x2x8192x64 : Shape := ⟨4, ![4, 2, 8192, 64]⟩
abbrev S4x2x8x8192x64 : Shape := ⟨5, ![4, 2, 8, 8192, 64]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S4x2x8x8192x8192 : Shape := ⟨5, ![4, 2, 8, 8192, 8192]⟩
abbrev S4x2x8x8192 : Shape := ⟨4, ![4, 2, 8, 8192]⟩
abbrev S4x2x8x8192x1 : Shape := ⟨5, ![4, 2, 8, 8192, 1]⟩
abbrev S1x1x1x8192x8192 : Shape := ⟨5, ![1, 1, 1, 8192, 8192]⟩

abbrev nBuf : Space → Nat
  | .hbm => 49
  | .vmem => 0
  | .smem => 0
  | _ => 0

abbrev bufTy : (tb : Table) → Fin (tcTables nBuf tb) → BufTy
  | .hbm, ⟨0, _⟩ => ⟨S4x16x8192x64, .bf16⟩
  | .hbm, ⟨1, _⟩ => ⟨S4x2x8192x64, .bf16⟩
  | .hbm, ⟨2, _⟩ => ⟨S4x2x8192x64, .bf16⟩
  | .hbm, ⟨3, _⟩ => ⟨S4x16x8192x64, .f32⟩
  | .hbm, ⟨4, _⟩ => ⟨S4x2x8x8192x64, .f32⟩
  | .hbm, ⟨5, _⟩ => ⟨S8192, .i32⟩
  | .hbm, ⟨6, _⟩ => ⟨S1x8192, .i32⟩
  | .hbm, ⟨7, _⟩ => ⟨S8192x1, .i32⟩
  | .hbm, ⟨8, _⟩ => ⟨S8192x8192, .i32⟩
  | .hbm, ⟨9, _⟩ => ⟨S8192x8192, .i32⟩
  | .hbm, ⟨10, _⟩ => ⟨S8192x8192, .i1⟩
  | .hbm, ⟨11, _⟩ => ⟨S1x8192, .i32⟩
  | .hbm, ⟨12, _⟩ => ⟨S8192x1, .i32⟩
  | .hbm, ⟨13, _⟩ => ⟨S_, .i32⟩
  | .hbm, ⟨14, _⟩ => ⟨S8192x1, .i32⟩
  | .hbm, ⟨15, _⟩ => ⟨S8192x1, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S8192x8192, .i1⟩
  | .hbm, ⟨20, _⟩ => ⟨S4x2x8192x64, .f32⟩
  | .hbm, ⟨21, _⟩ => ⟨S4x2x8x8192x8192, .f32⟩
  | .hbm, ⟨22, _⟩ => ⟨S_, .f32⟩
  | .hbm, ⟨23, _⟩ => ⟨S_, .f32⟩
  | .hbm, ⟨24, _⟩ => ⟨S4x2x8x8192x8192, .i1⟩
  | .hbm, ⟨25, _⟩ => ⟨S4x2x8x8192x8192, .f32⟩
  | .hbm, ⟨26, _⟩ => ⟨S4x2x8x8192x8192, .f32⟩
  | .hbm, ⟨27, _⟩ => ⟨S_, .f32⟩
  | .hbm, ⟨28, _⟩ => ⟨S4x2x8x8192, .f32⟩
  | .hbm, ⟨29, _⟩ => ⟨S_, .f32⟩
  | .hbm, ⟨30, _⟩ => ⟨S4x2x8x8192, .f32⟩
  | .hbm, ⟨31, _⟩ => ⟨S4x2x8x8192, .f32⟩
  | .hbm, ⟨32, _⟩ => ⟨S4x2x8x8192x1, .f32⟩
  | .hbm, ⟨33, _⟩ => ⟨S4x2x8x8192x8192, .f32⟩
  | .hbm, ⟨34, _⟩ => ⟨S4x2x8x8192x8192, .f32⟩
  | .hbm, ⟨35, _⟩ => ⟨S4x2x8x8192x8192, .f32⟩
  | .hbm, ⟨36, _⟩ => ⟨S_, .f32⟩
  | .hbm, ⟨37, _⟩ => ⟨S4x2x8x8192, .f32⟩
  | .hbm, ⟨38, _⟩ => ⟨S4x2x8x8192x1, .f32⟩
  | .hbm, ⟨39, _⟩ => ⟨S4x2x8x8192x8192, .f32⟩
  | .hbm, ⟨40, _⟩ => ⟨S4x2x8x8192x8192, .f32⟩
  | .hbm, ⟨41, _⟩ => ⟨S8192x8192, .f32⟩
  | .hbm, ⟨42, _⟩ => ⟨S1x1x1x8192x8192, .f32⟩
  | .hbm, ⟨43, _⟩ => ⟨S4x2x8x8192x8192, .f32⟩
  | .hbm, ⟨44, _⟩ => ⟨S4x2x8x8192x8192, .f32⟩
  | .hbm, ⟨45, _⟩ => ⟨S4x2x8192x64, .f32⟩
  | .hbm, ⟨46, _⟩ => ⟨S4x2x8x8192x64, .f32⟩
  | .hbm, ⟨47, _⟩ => ⟨S4x16x8192x64, .f32⟩
  | .hbm, ⟨48, _⟩ => ⟨S4x16x8192x64, .bf16⟩
  | _, _ => ⟨S4x16x8192x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== ProjQ.lean ====
abbrev S32768x1024 : Shape := ⟨2, ![32768, 1024]⟩
abbrev S1024x1024 : Shape := ⟨2, ![1024, 1024]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S32768x1024, .bf16⟩
  | .hbm, ⟨1, _⟩ => ⟨S1024x1024, .f32⟩
  | .hbm, ⟨2, _⟩ => ⟨S1024x1024, .bf16⟩
  | .hbm, ⟨3, _⟩ => ⟨S32768x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjQRefIdeal.lean ====
abbrev S32768x1024 : Shape := ⟨2, ![32768, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1024x1024, .f32⟩
  | .hbm, ⟨2, _⟩ => ⟨S32768x1024, .f32⟩
  | .hbm, ⟨3, _⟩ => ⟨S32768x1024, .f32⟩
  | .hbm, ⟨4, _⟩ => ⟨S32768x1024, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjKv.lean ====
abbrev S32768x1024 : Shape := ⟨2, ![32768, 1024]⟩
abbrev S1024x768 : Shape := ⟨2, ![1024, 768]⟩
abbrev S32768x768 : Shape := ⟨2, ![32768, 768]⟩
abbrev S512x1024 : Shape := ⟨2, ![512, 1024]⟩
abbrev S512x768 : Shape := ⟨2, ![512, 768]⟩

abbrev nBuf : Space → Nat
  | .hbm => 4
  | .vmem => 5
  | .smem => 0
  | _ => 0

abbrev bufTy : (tb : Table) → Fin (tcTables nBuf tb) → BufTy
  | .hbm, ⟨0, _⟩ => ⟨S32768x1024, .bf16⟩
  | .hbm, ⟨1, _⟩ => ⟨S1024x768, .f32⟩
  | .hbm, ⟨2, _⟩ => ⟨S1024x768, .bf16⟩
  | .hbm, ⟨3, _⟩ => ⟨S32768x768, .bf16⟩
  | .local _ .vmem, ⟨0, _⟩ => ⟨S512x1024, .bf16⟩
  | .local _ .vmem, ⟨1, _⟩ => ⟨S512x1024, .bf16⟩
  | .local _ .vmem, ⟨2, _⟩ => ⟨S1024x768, .bf16⟩
  | .local _ .vmem, ⟨3, _⟩ => ⟨S512x768, .bf16⟩
  | .local _ .vmem, ⟨4, _⟩ => ⟨S512x768, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjKvRefIdeal.lean ====
abbrev S32768x1024 : Shape := ⟨2, ![32768, 1024]⟩
abbrev S1024x768 : Shape := ⟨2, ![1024, 768]⟩
abbrev S32768x768 : Shape := ⟨2, ![32768, 768]⟩

abbrev nBuf : Space → Nat
  | .hbm => 5
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1024x768, .f32⟩
  | .hbm, ⟨2, _⟩ => ⟨S32768x1024, .f32⟩
  | .hbm, ⟨3, _⟩ => ⟨S32768x768, .f32⟩
  | .hbm, ⟨4, _⟩ => ⟨S32768x768, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjXbc.lean ====
abbrev S32768x1024 : Shape := ⟨2, ![32768, 1024]⟩
abbrev S1024x1536 : Shape := ⟨2, ![1024, 1536]⟩
abbrev S32768x1536 : Shape := ⟨2, ![32768, 1536]⟩
abbrev S512x1024 : Shape := ⟨2, ![512, 1024]⟩
abbrev S512x1536 : Shape := ⟨2, ![512, 1536]⟩

abbrev nBuf : Space → Nat
  | .hbm => 4
  | .vmem => 5
  | .smem => 0
  | _ => 0

abbrev bufTy : (tb : Table) → Fin (tcTables nBuf tb) → BufTy
  | .hbm, ⟨0, _⟩ => ⟨S32768x1024, .bf16⟩
  | .hbm, ⟨1, _⟩ => ⟨S1024x1536, .f32⟩
  | .hbm, ⟨2, _⟩ => ⟨S1024x1536, .bf16⟩
  | .hbm, ⟨3, _⟩ => ⟨S32768x1536, .bf16⟩
  | .local _ .vmem, ⟨0, _⟩ => ⟨S512x1024, .bf16⟩
  | .local _ .vmem, ⟨1, _⟩ => ⟨S512x1024, .bf16⟩
  | .local _ .vmem, ⟨2, _⟩ => ⟨S1024x1536, .bf16⟩
  | .local _ .vmem, ⟨3, _⟩ => ⟨S512x1536, .bf16⟩
  | .local _ .vmem, ⟨4, _⟩ => ⟨S512x1536, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjXbcRefIdeal.lean ====
abbrev S32768x1024 : Shape := ⟨2, ![32768, 1024]⟩
abbrev S1024x1536 : Shape := ⟨2, ![1024, 1536]⟩
abbrev S32768x1536 : Shape := ⟨2, ![32768, 1536]⟩

abbrev nBuf : Space → Nat
  | .hbm => 5
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1024x1536, .f32⟩
  | .hbm, ⟨2, _⟩ => ⟨S32768x1024, .f32⟩
  | .hbm, ⟨3, _⟩ => ⟨S32768x1536, .f32⟩
  | .hbm, ⟨4, _⟩ => ⟨S32768x1536, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjMg.lean ====
abbrev S32768x1024 : Shape := ⟨2, ![32768, 1024]⟩
abbrev S1024x3072 : Shape := ⟨2, ![1024, 3072]⟩
abbrev S32768x3072 : Shape := ⟨2, ![32768, 3072]⟩
abbrev S512x1024 : Shape := ⟨2, ![512, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S32768x1024, .bf16⟩
  | .hbm, ⟨1, _⟩ => ⟨S1024x3072, .f32⟩
  | .hbm, ⟨2, _⟩ => ⟨S1024x3072, .bf16⟩
  | .hbm, ⟨3, _⟩ => ⟨S32768x3072, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjMgRefIdeal.lean ====
abbrev S32768x1024 : Shape := ⟨2, ![32768, 1024]⟩
abbrev S1024x3072 : Shape := ⟨2, ![1024, 3072]⟩
abbrev S32768x3072 : Shape := ⟨2, ![32768, 3072]⟩

abbrev nBuf : Space → Nat
  | .hbm => 5
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1024x3072, .f32⟩
  | .hbm, ⟨2, _⟩ => ⟨S32768x1024, .f32⟩
  | .hbm, ⟨3, _⟩ => ⟨S32768x3072, .f32⟩
  | .hbm, ⟨4, _⟩ => ⟨S32768x3072, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Merge.lean ====
abbrev S4x16x8192x64 : Shape := ⟨4, ![4, 16, 8192, 64]⟩
abbrev S32768x128 : Shape := ⟨2, ![32768, 128]⟩
abbrev S32768x1024 : Shape := ⟨2, ![32768, 1024]⟩
abbrev S32768x3072 : Shape := ⟨2, ![32768, 3072]⟩
abbrev S3x1024x1024 : Shape := ⟨3, ![3, 1024, 1024]⟩
abbrev S1024x1024 : Shape := ⟨2, ![1024, 1024]⟩
abbrev S1x16x256x64 : Shape := ⟨4, ![1, 16, 256, 64]⟩
abbrev S256x128 : Shape := ⟨2, ![256, 128]⟩
abbrev S256x1024 : Shape := ⟨2, ![256, 1024]⟩
abbrev S256x3072 : Shape := ⟨2, ![256, 3072]⟩
abbrev S256x1 : Shape := ⟨2, ![256, 1]⟩
abbrev S1x1x256x64 : Shape := ⟨4, ![1, 1, 256, 64]⟩
abbrev S256x64 : Shape := ⟨2, ![256, 64]⟩
abbrev S1x1024x1024 : Shape := ⟨3, ![1, 1024, 1024]⟩

abbrev nBuf : Space → Nat
  | .hbm => 13
  | .vmem => 21
  | .smem => 0
  | _ => 0

abbrev bufTy : (tb : Table) → Fin (tcTables nBuf tb) → BufTy
  | .hbm, ⟨0, _⟩ => ⟨S4x16x8192x64, .bf16⟩
  | .hbm, ⟨1, _⟩ => ⟨S4x16x8192x64, .bf16⟩
  | .hbm, ⟨2, _⟩ => ⟨S4x16x8192x64, .bf16⟩
  | .hbm, ⟨3, _⟩ => ⟨S32768x128, .f32⟩
  | .hbm, ⟨4, _⟩ => ⟨S32768x1024, .bf16⟩
  | .hbm, ⟨5, _⟩ => ⟨S32768x1024, .bf16⟩
  | .hbm, ⟨6, _⟩ => ⟨S32768x3072, .bf16⟩
  | .hbm, ⟨7, _⟩ => ⟨S32768x1024, .f32⟩
  | .hbm, ⟨8, _⟩ => ⟨S3x1024x1024, .f32⟩
  | .hbm, ⟨9, _⟩ => ⟨S1024x1024, .f32⟩
  | .hbm, ⟨10, _⟩ => ⟨S3x1024x1024, .bf16⟩
  | .hbm, ⟨11, _⟩ => ⟨S1024x1024, .bf16⟩
  | .hbm, ⟨12, _⟩ => ⟨S32768x1024, .f32⟩
  | .local _ .vmem, ⟨0, _⟩ => ⟨S1x16x256x64, .bf16⟩
  | .local _ .vmem, ⟨1, _⟩ => ⟨S1x16x256x64, .bf16⟩
  | .local _ .vmem, ⟨2, _⟩ => ⟨S1x16x256x64, .bf16⟩
  | .local _ .vmem, ⟨3, _⟩ => ⟨S1x16x256x64, .bf16⟩
  | .local _ .vmem, ⟨4, _⟩ => ⟨S1x16x256x64, .bf16⟩
  | .local _ .vmem, ⟨5, _⟩ => ⟨S1x16x256x64, .bf16⟩
  | .local _ .vmem, ⟨6, _⟩ => ⟨S256x128, .f32⟩
  | .local _ .vmem, ⟨7, _⟩ => ⟨S256x128, .f32⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x3072, .bf16⟩
  | .local _ .vmem, ⟨13, _⟩ => ⟨S256x3072, .bf16⟩
  | .local _ .vmem, ⟨14, _⟩ => ⟨S256x1024, .f32⟩
  | .local _ .vmem, ⟨15, _⟩ => ⟨S256x1024, .f32⟩
  | .local _ .vmem, ⟨16, _⟩ => ⟨S3x1024x1024, .bf16⟩
  | .local _ .vmem, ⟨17, _⟩ => ⟨S1024x1024, .bf16⟩
  | .local _ .vmem, ⟨18, _⟩ => ⟨S256x1024, .f32⟩
  | .local _ .vmem, ⟨19, _⟩ => ⟨S256x1024, .f32⟩
  | .local _ .vmem, ⟨20, _⟩ => ⟨S256x1024, .bf16⟩
  | _, _ => ⟨S4x16x8192x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_1 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_2 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x16x256x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x256x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x256x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeRefIdeal.lean ====
abbrev S4x16x8192x64 : Shape := ⟨4, ![4, 16, 8192, 64]⟩
abbrev S32768x128 : Shape := ⟨2, ![32768, 128]⟩
abbrev S32768x1024 : Shape := ⟨2, ![32768, 1024]⟩
abbrev S32768x3072 : Shape := ⟨2, ![32768, 3072]⟩
abbrev S3x1024x1024 : Shape := ⟨3, ![3, 1024, 1024]⟩
abbrev S1024x1024 : Shape := ⟨2, ![1024, 1024]⟩
abbrev S32768x48 : Shape := ⟨2, ![32768, 48]⟩
abbrev S_ : Shape := ⟨0, ![]⟩
abbrev S4x8192x16x3 : Shape := ⟨4, ![4, 8192, 16, 3]⟩
abbrev S4x8192x16x1 : Shape := ⟨4, ![4, 8192, 16, 1]⟩
abbrev S4x8192x16x64 : Shape := ⟨4, ![4, 8192, 16, 64]⟩
abbrev S32768x3x1024 : Shape := ⟨3, ![32768, 3, 1024]⟩
abbrev S32768x1x1024 : Shape := ⟨3, ![32768, 1, 1024]⟩
abbrev S1x1024x1024 : Shape := ⟨3, ![1, 1024, 1024]⟩

abbrev nBuf : Space → Nat
  | .hbm => 72
  | .vmem => 0
  | .smem => 0
  | _ => 0

abbrev bufTy : (tb : Table) → Fin (tcTables nBuf tb) → BufTy
  | .hbm, ⟨0, _⟩ => ⟨S4x16x8192x64, .bf16⟩
  | .hbm, ⟨1, _⟩ => ⟨S4x16x8192x64, .bf16⟩
  | .hbm, ⟨2, _⟩ => ⟨S4x16x8192x64, .bf16⟩
  | .hbm, ⟨3, _⟩ => ⟨S32768x128, .f32⟩
  | .hbm, ⟨4, _⟩ => ⟨S32768x1024, .bf16⟩
  | .hbm, ⟨5, _⟩ => ⟨S32768x1024, .bf16⟩
  | .hbm, ⟨6, _⟩ => ⟨S32768x3072, .bf16⟩
  | .hbm, ⟨7, _⟩ => ⟨S32768x1024, .f32⟩
  | .hbm, ⟨8, _⟩ => ⟨S3x1024x1024, .f32⟩
  | .hbm, ⟨9, _⟩ => ⟨S1024x1024, .f32⟩
  | .hbm, ⟨10, _⟩ => ⟨S32768x48, .f32⟩
  | .hbm, ⟨11, _⟩ => ⟨S32768x48, .f32⟩
  | .hbm, ⟨12, _⟩ => ⟨S32768x48, .f32⟩
  | .hbm, ⟨13, _⟩ => ⟨S_, .f32⟩
  | .hbm, ⟨14, _⟩ => ⟨S32768x48, .f32⟩
  | .hbm, ⟨15, _⟩ => ⟨S32768x48, .f32⟩
  | .hbm, ⟨16, _⟩ => ⟨S_, .f32⟩
  | .hbm, ⟨17, _⟩ => ⟨S32768x48, .f32⟩
  | .hbm, ⟨18, _⟩ => ⟨S32768x48, .f32⟩
  | .hbm, ⟨19, _⟩ => ⟨S4x8192x16x3, .f32⟩
  | .hbm, ⟨20, _⟩ => ⟨S4x8192x16x1, .f32⟩
  | .hbm, ⟨21, _⟩ => ⟨S4x16x8192x64, .f32⟩
  | .hbm, ⟨22, _⟩ => ⟨S4x8192x16x64, .f32⟩
  | .hbm, ⟨23, _⟩ => ⟨S4x8192x16x64, .f32⟩
  | .hbm, ⟨24, _⟩ => ⟨S4x8192x16x64, .f32⟩
  | .hbm, ⟨25, _⟩ => ⟨S4x8192x16x1, .f32⟩
  | .hbm, ⟨26, _⟩ => ⟨S4x16x8192x64, .f32⟩
  | .hbm, ⟨27, _⟩ => ⟨S4x8192x16x64, .f32⟩
  | .hbm, ⟨28, _⟩ => ⟨S4x8192x16x64, .f32⟩
  | .hbm, ⟨29, _⟩ => ⟨S4x8192x16x64, .f32⟩
  | .hbm, ⟨30, _⟩ => ⟨S4x8192x16x64, .f32⟩
  | .hbm, ⟨31, _⟩ => ⟨S4x8192x16x1, .f32⟩
  | .hbm, ⟨32, _⟩ => ⟨S4x16x8192x64, .f32⟩
  | .hbm, ⟨33, _⟩ => ⟨S4x8192x16x64, .f32⟩
  | .hbm, ⟨34, _⟩ => ⟨S4x8192x16x64, .f32⟩
  | .hbm, ⟨35, _⟩ => ⟨S4x8192x16x64, .f32⟩
  | .hbm, ⟨36, _⟩ => ⟨S4x8192x16x64, .f32⟩
  | .hbm, ⟨37, _⟩ => ⟨S32768x1024, .f32⟩
  | .hbm, ⟨38, _⟩ => ⟨S32768x3072, .f32⟩
  | .hbm, ⟨39, _⟩ => ⟨S32768x3072, .f32⟩
  | .hbm, ⟨40, _⟩ => ⟨S32768x3072, .f32⟩
  | .hbm, ⟨41, _⟩ => ⟨S_, .f32⟩
  | .hbm, ⟨42, _⟩ => ⟨S32768x3072, .f32⟩
  | .hbm, ⟨43, _⟩ => ⟨S32768x3072, .f32⟩
  | .hbm, ⟨44, _⟩ => ⟨S_, .f32⟩
  | .hbm, ⟨45, _⟩ => ⟨S32768x3072, .f32⟩
  | .hbm, ⟨46, _⟩ => ⟨S32768x3072, .f32⟩
  | .hbm, ⟨47, _⟩ => ⟨S32768x3x1024, .f32⟩
  | .hbm, ⟨48, _⟩ => ⟨S32768x1x1024, .f32⟩
  | .hbm, ⟨49, _⟩ => ⟨S32768x1024, .f32⟩
  | .hbm, ⟨50, _⟩ => ⟨S1x1024x1024, .f32⟩
  | .hbm, ⟨51, _⟩ => ⟨S1024x1024, .f32⟩
  | .hbm, ⟨52, _⟩ => ⟨S32768x1024, .f32⟩
  | .hbm, ⟨53, _⟩ => ⟨S32768x1024, .f32⟩
  | .hbm, ⟨54, _⟩ => ⟨S32768x1x1024, .f32⟩
  | .hbm, ⟨55, _⟩ => ⟨S32768x1024, .f32⟩
  | .hbm, ⟨56, _⟩ => ⟨S32768x1024, .f32⟩
  | .hbm, ⟨57, _⟩ => ⟨S1x1024x1024, .f32⟩
  | .hbm, ⟨58, _⟩ => ⟨S1024x1024, .f32⟩
  | .hbm, ⟨59, _⟩ => ⟨S32768x1024, .f32⟩
  | .hbm, ⟨60, _⟩ => ⟨S32768x1024, .f32⟩
  | .hbm, ⟨61, _⟩ => ⟨S32768x1024, .f32⟩
  | .hbm, ⟨62, _⟩ => ⟨S32768x1x1024, .f32⟩
  | .hbm, ⟨63, _⟩ => ⟨S32768x1024, .f32⟩
  | .hbm, ⟨64, _⟩ => ⟨S32768x1024, .f32⟩
  | .hbm, ⟨65, _⟩ => ⟨S1x1024x1024, .f32⟩
  | .hbm, ⟨66, _⟩ => ⟨S1024x1024, .f32⟩
  | .hbm, ⟨67, _⟩ => ⟨S32768x1024, .f32⟩
  | .hbm, ⟨68, _⟩ => ⟨S32768x1024, .f32⟩
  | .hbm, ⟨69, _⟩ => ⟨S32768x1024, .f32⟩
  | .hbm, ⟨70, _⟩ => ⟨S32768x1024, .f32⟩
  | .hbm, ⟨71, _⟩ => ⟨S32768x1024, .f32⟩
  | _, _ => ⟨S4x16x8192x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_1 : Ref sig .tc := ⟨.hbm, 41, rfl⟩
abbrev main_v29 : Ref sig .tc := ⟨.hbm, 42, rfl⟩
abbrev main_v30 : Ref sig .tc := ⟨.hbm, 43, rfl⟩
abbrev main_cst_2 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩

abbrev nD : Nat := 1
abbrev τ : Topo := Topo.v7x

variable {F : FTy → Type} [FloatOps F]
-- ==== Cmp.lean ====
abbrev S4x16x8192x64 : Shape := ⟨4, ![4, 16, 8192, 64]⟩
abbrev S4x2x512x64 : Shape := ⟨4, ![4, 2, 512, 64]⟩
abbrev S512 : Shape := ⟨1, ![512]⟩
abbrev S_ : Shape := ⟨0, ![]⟩
abbrev S128 : Shape := ⟨1, ![128]⟩
abbrev S512x1 : Shape := ⟨2, ![512, 1]⟩
abbrev S1x128 : Shape := ⟨2, ![1, 128]⟩
abbrev S512x128 : Shape := ⟨2, ![512, 128]⟩
abbrev S4x2x8192x128 : Shape := ⟨4, ![4, 2, 8192, 128]⟩
abbrev S1x8x128x64 : Shape := ⟨4, ![1, 8, 128, 64]⟩
abbrev S1x1x512x64 : Shape := ⟨4, ![1, 1, 512, 64]⟩
abbrev S1x1x128x128 : Shape := ⟨4, ![1, 1, 128, 128]⟩
abbrev S8x128x64 : Shape := ⟨3, ![8, 128, 64]⟩
abbrev S1024x64 : Shape := ⟨2, ![1024, 64]⟩
abbrev S512x64 : Shape := ⟨2, ![512, 64]⟩
abbrev S1024x512 : Shape := ⟨2, ![1024, 512]⟩
abbrev S8x128x512 : Shape := ⟨3, ![8, 128, 512]⟩
abbrev S128x512 : Shape := ⟨2, ![128, 512]⟩
abbrev S1x128x512 : Shape := ⟨3, ![1, 128, 512]⟩
abbrev S8x128 : Shape := ⟨2, ![8, 128]⟩
abbrev S8x128x1 : Shape := ⟨3, ![8, 128, 1]⟩
abbrev S128x128 : Shape := ⟨2, ![128, 128]⟩
abbrev S128x1 : Shape := ⟨2, ![128, 1]⟩

abbrev nBuf : Space → Nat
  | .hbm => 49
  | .vmem => 11
  | .smem => 0
  | _ => 0

abbrev bufTy : (tb : Table) → Fin (tcTables nBuf tb) → BufTy
  | .hbm, ⟨0, _⟩ => ⟨S4x16x8192x64, .bf16⟩
  | .hbm, ⟨1, _⟩ => ⟨S4x2x512x64, .bf16⟩
  | .hbm, ⟨2, _⟩ => ⟨S4x2x512x64, .bf16⟩
  | .hbm, ⟨3, _⟩ => ⟨S512, .i32⟩
  | .hbm, ⟨4, _⟩ => ⟨S_, .i32⟩
  | .hbm, ⟨5, _⟩ => ⟨S512, .i32⟩
  | .hbm, ⟨6, _⟩ => ⟨S512, .i32⟩
  | .hbm, ⟨7, _⟩ => ⟨S128, .i32⟩
  | .hbm, ⟨8, _⟩ => ⟨S_, .i32⟩
  | .hbm, ⟨9, _⟩ => ⟨S128, .i32⟩
  | .hbm, ⟨10, _⟩ => ⟨S128, .i32⟩
  | .hbm, ⟨11, _⟩ => ⟨S512x1, .i32⟩
  | .hbm, ⟨12, _⟩ => ⟨S_, .i32⟩
  | .hbm, ⟨13, _⟩ => ⟨S512x1, .i32⟩
  | .hbm, ⟨14, _⟩ => ⟨S512x1, .i32⟩
  | .hbm, ⟨15, _⟩ => ⟨S1x128, .i32⟩
  | .hbm, ⟨16, _⟩ => ⟨S_, .i32⟩
  | .hbm, ⟨17, _⟩ => ⟨S1x128, .i32⟩
  | .hbm, ⟨18, _⟩ => ⟨S1x128, .i32⟩
  | .hbm, ⟨19, _⟩ => ⟨S512x128, .i32⟩
  | .hbm, ⟨20, _⟩ => ⟨S512x128, .i32⟩
  | .hbm, ⟨21, _⟩ => ⟨S512x128, .i32⟩
  | .hbm, ⟨22, _⟩ => ⟨S512x1, .i32⟩
  | .hbm, ⟨23, _⟩ => ⟨S1x128, .i32⟩
  | .hbm, ⟨24, _⟩ => ⟨S512x128, .i32⟩
  | .hbm, ⟨25, _⟩ => ⟨S512x128, .i32⟩
  | .hbm, ⟨26, _⟩ => ⟨S512x128, .i32⟩
  | .hbm, ⟨27, _⟩ => ⟨S512x128, .i32⟩
  | .hbm, ⟨28, _⟩ => ⟨S_, .i32⟩
  | .hbm, ⟨29, _⟩ => ⟨S_, .i32⟩
  | .hbm, ⟨30, _⟩ => ⟨S512x128, .i32⟩
  | .hbm, ⟨31, _⟩ => ⟨S512x128, .i32⟩
  | .hbm, ⟨32, _⟩ => ⟨S512x128, .f32⟩
  | .hbm, ⟨33, _⟩ => ⟨S_, .f32⟩
  | .hbm, ⟨34, _⟩ => ⟨S512x128, .f32⟩
  | .hbm, ⟨35, _⟩ => ⟨S512x128, .f32⟩
  | .hbm, ⟨36, _⟩ => ⟨S512, .i32⟩
  | .hbm, ⟨37, _⟩ => ⟨S512x1, .i32⟩
  | .hbm, ⟨38, _⟩ => ⟨S_, .i32⟩
  | .hbm, ⟨39, _⟩ => ⟨S512x1, .i32⟩
  | .hbm, ⟨40, _⟩ => ⟨S512x1, .i1⟩
  | .hbm, ⟨41, _⟩ => ⟨S_, .f32⟩
  | .hbm, ⟨42, _⟩ => ⟨S_, .f32⟩
  | .hbm, ⟨43, _⟩ => ⟨S512x128, .i1⟩
  | .hbm, ⟨44, _⟩ => ⟨S512x128, .f32⟩
  | .hbm, ⟨45, _⟩ => ⟨S512x128, .f32⟩
  | .hbm, ⟨46, _⟩ => ⟨S512x128, .bf16⟩
  | .hbm, ⟨47, _⟩ => ⟨S4x16x8192x64, .bf16⟩
  | .hbm, ⟨48, _⟩ => ⟨S4x2x8192x128, .bf16⟩
  | .local _ .vmem, ⟨0, _⟩ => ⟨S1x8x128x64, .bf16⟩
  | .local _ .vmem, ⟨1, _⟩ => ⟨S1x8x128x64, .bf16⟩
  | .local _ .vmem, ⟨2, _⟩ => ⟨S1x1x512x64, .bf16⟩
  | .local _ .vmem, ⟨3, _⟩ => ⟨S1x1x512x64, .bf16⟩
  | .local _ .vmem, ⟨4, _⟩ => ⟨S1x1x512x64, .bf16⟩
  | .local _ .vmem, ⟨5, _⟩ => ⟨S1x1x512x64, .bf16⟩
  | .local _ .vmem, ⟨6, _⟩ => ⟨S512x128, .bf16⟩
  | .local _ .vmem, ⟨7, _⟩ => ⟨S1x8x128x64, .bf16⟩
  | .local _ .vmem, ⟨8, _⟩ => ⟨S1x8x128x64, .bf16⟩
  | .local _ .vmem, ⟨9, _⟩ => ⟨S1x1x128x128, .bf16⟩
  | .local _ .vmem, ⟨10, _⟩ => ⟨S1x1x128x128, .bf16⟩
  | _, _ => ⟨S4x16x8192x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_3 : Ref sig .tc := ⟨.hbm, 28, rfl⟩
abbrev main_call0_v0 : Ref sig .tc := ⟨.hbm, 29, rfl⟩
abbrev main_call0_v1 : Ref sig .tc := ⟨.hbm, 30, rfl⟩
abbrev main_v21 : Ref sig .tc := ⟨.hbm, 31, rfl⟩
abbrev main_v22 : Ref sig .tc := ⟨.hbm, 32, rfl⟩
abbrev main_cst : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v29 : Ref sig .tc := ⟨.hbm, 45, rfl⟩
abbrev main_v30 : Ref sig .tc := ⟨.hbm, 46, rfl⟩
abbrev main_v31_0 : Ref sig .tc := ⟨.hbm, 47, rfl⟩
abbrev main_v31_1 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 2, 64], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x8x128x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x512x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x512x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S512x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x8x128x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== CmpIdeal.lean ====
variable {F : FTy → Type} [FloatOps F] [Named F]
def κ : String → Option EReal := fun
  | "mask" => some ⊥
  | _ => none
-- ==== CmpRefIdeal.lean ====
abbrev S4x16x8192x64 : Shape := ⟨4, ![4, 16, 8192, 64]⟩
abbrev S4x2x512x64 : Shape := ⟨4, ![4, 2, 512, 64]⟩
abbrev S4x2x8x8192x64 : Shape := ⟨5, ![4, 2, 8, 8192, 64]⟩
abbrev S511 : Shape := ⟨1, ![511]⟩
abbrev S_ : Shape := ⟨0, ![]⟩
abbrev S4x2x511x64 : Shape := ⟨4, ![4, 2, 511, 64]⟩
abbrev S4x2x8x8192x511 : Shape := ⟨5, ![4, 2, 8, 8192, 511]⟩
abbrev S1x511 : Shape := ⟨2, ![1, 511]⟩
abbrev S8192 : Shape := ⟨1, ![8192]⟩
abbrev S8192x1 : Shape := ⟨2, ![8192, 1]⟩
abbrev S8192x511 : Shape := ⟨2, ![8192, 511]⟩
abbrev S4x2x8x8192 : Shape := ⟨4, ![4, 2, 8, 8192]⟩
abbrev S4x2x8x8192x1 : Shape := ⟨5, ![4, 2, 8, 8192, 1]⟩
abbrev S1x1x1x8192x511 : Shape := ⟨5, ![1, 1, 1, 8192, 511]⟩
abbrev S128 : Shape := ⟨1, ![128]⟩
abbrev S511x1 : Shape := ⟨2, ![511, 1]⟩
abbrev S1x128 : Shape := ⟨2, ![1, 128]⟩
abbrev S511x128 : Shape := ⟨2, ![511, 128]⟩
abbrev S4x2x8192x511 : Shape := ⟨4, ![4, 2, 8192, 511]⟩
abbrev S4x2x8192x128 : Shape := ⟨4, ![4, 2, 8192, 128]⟩
abbrev S8192x128 : Shape := ⟨2, ![8192, 128]⟩
abbrev S4x2x8192x16 : Shape := ⟨4, ![4, 2, 8192, 16]⟩
abbrev S4x2x8192x1x16 : Shape := ⟨5, ![4, 2, 8192, 1, 16]⟩
abbrev S128x1 : Shape := ⟨2, ![128, 1]⟩
abbrev S1x1x1x128x1 : Shape := ⟨5, ![1, 1, 1, 128, 1]⟩
abbrev S4x2x8192x128x16 : Shape := ⟨5, ![4, 2, 8192, 128, 16]⟩
abbrev S1x1x8192x128 : Shape := ⟨4, ![1, 1, 8192, 128]⟩

abbrev nBuf : Space → Nat
  | .hbm => 162
  | .vmem => 0
  | .smem => 0
  | _ => 0

abbrev hbmTy0_0 (i : Nat) : BufTy := match i % 128 with
  | 0 => ⟨S4x16x8192x64, .bf16⟩
  | 1 => ⟨S4x2x512x64, .bf16⟩
  | 2 => ⟨S4x2x512x64, .bf16⟩
  | 3 => ⟨S4x16x8192x64, .f32⟩
  | 4 => ⟨S4x2x8x8192x64, .f32⟩
  | 5 => ⟨S511, .i32⟩
  | 6 => ⟨S_, .i32⟩
  | 7 => ⟨S511, .i32⟩
  | 8 => ⟨S511, .i32⟩
  | 9 => ⟨S_, .i32⟩
  | 10 => ⟨S511, .i32⟩
  | 11 => ⟨S511, .i32⟩
  | 12 => ⟨S_, .i32⟩
  | 13 => ⟨S511, .i32⟩
  | 14 => ⟨S511, .i32⟩
  | 15 => ⟨S4x2x511x64, .bf16⟩
  | 16 => ⟨S4x2x511x64, .f32⟩
  | 17 => ⟨S4x2x8x8192x511, .f32⟩
  | 18 => ⟨S1x511, .i32⟩
  | 19 => ⟨S8192, .i32⟩
  | 20 => ⟨S8192x1, .i32⟩
  | 21 => ⟨S8192x511, .i32⟩
  | 22 => ⟨S8192x511, .i32⟩
  | 23 => ⟨S8192x511, .i1⟩
  | 24 => ⟨S_, .f32⟩
  | 25 => ⟨S_, .f32⟩
  | 26 => ⟨S4x2x8x8192x511, .i1⟩
  | 27 => ⟨S4x2x8x8192x511, .f32⟩
  | 28 => ⟨S4x2x8x8192x511, .f32⟩
  | 29 => ⟨S_, .f32⟩
  | 30 => ⟨S4x2x8x8192, .f32⟩
  | 31 => ⟨S_, .f32⟩
  | 32 => ⟨S4x2x8x8192, .f32⟩
  | 33 => ⟨S4x2x8x8192, .f32⟩
  | 34 => ⟨S4x2x8x8192x1, .f32⟩
  | 35 => ⟨S4x2x8x8192x511, .f32⟩
  | 36 => ⟨S4x2x8x8192x511, .f32⟩
  | 37 => ⟨S4x2x8x8192x511, .f32⟩
  | 38 => ⟨S_, .f32⟩
  | 39 => ⟨S4x2x8x8192, .f32⟩
  | 40 => ⟨S4x2x8x8192x1, .f32⟩
  | 41 => ⟨S4x2x8x8192x511, .f32⟩
  | 42 => ⟨S4x2x8x8192x511, .f32⟩
  | 43 => ⟨S8192x511, .f32⟩
  | 44 => ⟨S1x1x1x8192x511, .f32⟩
  | 45 => ⟨S4x2x8x8192x511, .f32⟩
  | 46 => ⟨S4x2x8x8192x511, .f32⟩
  | 47 => ⟨S4x2x511x64, .bf16⟩
  | 48 => ⟨S4x2x511x64, .f32⟩
  | 49 => ⟨S4x2x8x8192x64, .f32⟩
  | 50 => ⟨S128, .i32⟩
  | 51 => ⟨S_, .i32⟩
  | 52 => ⟨S128, .i32⟩
  | 53 => ⟨S128, .i32⟩
  | 54 => ⟨S511, .i32⟩
  | 55 => ⟨S_, .i32⟩
  | 56 => ⟨S511, .i32⟩
  | 57 => ⟨S511, .i32⟩
  | 58 => ⟨S511x1, .i32⟩
  | 59 => ⟨S_, .i32⟩
  | 60 => ⟨S511x1, .i32⟩
  | 61 => ⟨S511x1, .i32⟩
  | 62 => ⟨S1x128, .i32⟩
  | 63 => ⟨S_, .i32⟩
  | 64 => ⟨S1x128, .i32⟩
  | 65 => ⟨S1x128, .i32⟩
  | 66 => ⟨S511x128, .i32⟩
  | 67 => ⟨S511x128, .i32⟩
  | 68 => ⟨S511x128, .i32⟩
  | 69 => ⟨S511x1, .i32⟩
  | 70 => ⟨S1x128, .i32⟩
  | 71 => ⟨S511x128, .i32⟩
  | 72 => ⟨S511x128, .i32⟩
  | 73 => ⟨S511x128, .i32⟩
  | 74 => ⟨S511x128, .i32⟩
  | 75 => ⟨S_, .i32⟩
  | 76 => ⟨S_, .i32⟩
  | 77 => ⟨S511x128, .i32⟩
  | 78 => ⟨S511x128, .i32⟩
  | 79 => ⟨S511x128, .f32⟩
  | 80 => ⟨S_, .f32⟩
  | 81 => ⟨S511x128, .f32⟩
  | 82 => ⟨S511x128, .f32⟩
  | 83 => ⟨S_, .f32⟩
  | 84 => ⟨S4x2x8192x511, .f32⟩
  | 85 => ⟨S4x2x8192x128, .f32⟩
  | 86 => ⟨S8192, .i32⟩
  | 87 => ⟨S8192x1, .i32⟩
  | 88 => ⟨S128, .i32⟩
  | 89 => ⟨S1x128, .i32⟩
  | 90 => ⟨S_, .i32⟩
  | 91 => ⟨S_, .i32⟩
  | 92 => ⟨S8192x1, .i32⟩
  | 93 => ⟨S8192x1, .i32⟩
  | 94 => ⟨S8192x1, .i32⟩
  | 95 => ⟨S_, .i32⟩
  | 96 => ⟨S8192x1, .i32⟩
  | 97 => ⟨S8192x1, .i1⟩
  | 98 => ⟨S8192x1, .i32⟩
  | 99 => ⟨S8192x1, .i32⟩
  | 100 => ⟨S_, .i32⟩
  | 101 => ⟨S8192x1, .i32⟩
  | 102 => ⟨S8192x1, .i1⟩
  | 103 => ⟨S8192x1, .i1⟩
  | 104 => ⟨S_, .i32⟩
  | 105 => ⟨S8192x1, .i32⟩
  | 106 => ⟨S8192x1, .i32⟩
  | 107 => ⟨S8192x1, .i32⟩
  | 108 => ⟨S_, .i32⟩
  | 109 => ⟨S1x128, .i32⟩
  | 110 => ⟨S1x128, .i1⟩
  | 111 => ⟨S8192x128, .i32⟩
  | 112 => ⟨S8192x128, .i32⟩
  | 113 => ⟨S8192x128, .i1⟩
  | 114 => ⟨S8192x128, .i1⟩
  | 115 => ⟨S8192x128, .i1⟩
  | 116 => ⟨S_, .i32⟩
  | 117 => ⟨S8192x1, .i32⟩
  | 118 => ⟨S8192x1, .i32⟩
  | 119 => ⟨S8192x128, .i32⟩
  | 120 => ⟨S8192x128, .i32⟩
  | 121 => ⟨S8192x128, .i1⟩
  | 122 => ⟨S8192x128, .i1⟩
  | 123 => ⟨S1x128, .i32⟩
  | 124 => ⟨S8192x128, .i32⟩
  | 125 => ⟨S8192x128, .i32⟩
  | 126 => ⟨S8192x128, .i1⟩
  | 127 => ⟨S_, .f32⟩
  | _ => ⟨S4x16x8192x64, .bf16⟩

abbrev hbmTy0_1 (i : Nat) : BufTy := match i % 128 with
  | 0 => ⟨S_, .f32⟩
  | 1 => ⟨S4x2x8192x128, .i1⟩
  | 2 => ⟨S4x2x8192x128, .f32⟩
  | 3 => ⟨S4x2x8192x128, .f32⟩
  | 4 => ⟨S_, .f32⟩
  | 5 => ⟨S_, .f32⟩
  | 6 => ⟨S4x2x8192x128, .i1⟩
  | 7 => ⟨S4x2x8192x128, .f32⟩
  | 8 => ⟨S4x2x8192x128, .f32⟩
  | 9 => ⟨S4x2x8192x16, .f32⟩
  | 10 => ⟨S4x2x8192x16, .i32⟩
  | 11 => ⟨S4x2x8192x1x16, .i32⟩
  | 12 => ⟨S128, .i32⟩
  | 13 => ⟨S128x1, .i32⟩
  | 14 => ⟨S1x1x1x128x1, .i32⟩
  | 15 => ⟨S4x2x8192x128x16, .i32⟩
  | 16 => ⟨S4x2x8192x128x16, .i32⟩
  | 17 => ⟨S4x2x8192x128x16, .i1⟩
  | 18 => ⟨S_, .i1⟩
  | 19 => ⟨S4x2x8192x128, .i1⟩
  | 20 => ⟨S8192x128, .i32⟩
  | 21 => ⟨S8192x128, .i32⟩
  | 22 => ⟨S8192x128, .i1⟩
  | 23 => ⟨S1x1x8192x128, .i1⟩
  | 24 => ⟨S4x2x8192x128, .i1⟩
  | 25 => ⟨S4x2x8192x128, .i1⟩
  | 26 => ⟨S_, .f32⟩
  | 27 => ⟨S_, .f32⟩
  | 28 => ⟨S4x2x8192x128, .f32⟩
  | 29 => ⟨S4x2x8192x128, .f32⟩
  | 30 => ⟨S4x2x8192x128, .f32⟩
  | 31 => ⟨S4x16x8192x64, .f32⟩
  | 32 => ⟨S4x16x8192x64, .bf16⟩
  | 33 => ⟨S4x2x8192x128, .bf16⟩
  | _ => ⟨S4x16x8192x64, .bf16⟩

abbrev hbmTy (i : Nat) : BufTy := match i / 128 with
  | 0 => hbmTy0_0 i
  | 1 => hbmTy0_1 i
  | _ => ⟨S4x16x8192x64, .bf16⟩

abbrev bufTy : (tb : Table) → Fin (tcTables nBuf tb) → BufTy
  | .hbm, ⟨i, _⟩ => hbmTy i
  | _, _ => ⟨S4x16x8192x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c_5 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_6 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c_7 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c_8 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_c_9 : Ref sig .tc := ⟨.hbm, 75, rfl⟩
abbrev main_call1_v0 : Ref sig .tc := ⟨.hbm, 76, rfl⟩
abbrev main_call1_v1 : Ref sig .tc := ⟨.hbm, 77, rfl⟩
abbrev main_v58 : Ref sig .tc := ⟨.hbm, 78, rfl⟩
abbrev main_v59 : Ref sig .tc := ⟨.hbm, 79, rfl⟩
abbrev main_cst_10 : Ref sig .tc := ⟨.hbm, 80, rfl⟩
abbrev main_v60 : Ref sig .tc := ⟨.hbm, 81, rfl⟩
abbrev main_v61 : Ref sig .tc := ⟨.hbm, 82, rfl⟩
abbrev main_cst_11 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_c_12 : Ref sig .tc := ⟨.hbm, 90, rfl⟩
abbrev main_call2_v0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_v7 : Ref sig .tc := ⟨.hbm, 98, rfl⟩
abbrev main_call2_v8 : Ref sig .tc := ⟨.hbm, 99, rfl⟩
abbrev main_call2_c : Ref sig .tc := ⟨.hbm, 100, rfl⟩
abbrev main_call2_v9 : Ref sig .tc := ⟨.hbm, 101, rfl⟩
abbrev main_call2_v10 : Ref sig .tc := ⟨.hbm, 102, rfl⟩
abbrev main_call2_v11 : Ref sig .tc := ⟨.hbm, 103, rfl⟩
abbrev main_call2_c_0 : Ref sig .tc := ⟨.hbm, 104, rfl⟩
abbrev main_call2_v12 : Ref sig .tc := ⟨.hbm, 105, rfl⟩
abbrev main_call2_v13 : Ref sig .tc := ⟨.hbm, 106, rfl⟩
abbrev main_v68 : Ref sig .tc := ⟨.hbm, 107, rfl⟩
abbrev main_c_13 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_c_14 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_cst_15 : Ref sig .tc := ⟨.hbm, 127, rfl⟩
abbrev main_call3_v0 : Ref sig .tc := ⟨.hbm, 128, rfl⟩
abbrev main_call3_v1 : Ref sig .tc := ⟨.hbm, 129, rfl⟩
abbrev main_call3_v2 : Ref sig .tc := ⟨.hbm, 130, rfl⟩
abbrev main_v86 : Ref sig .tc := ⟨.hbm, 131, rfl⟩
abbrev main_cst_16 : Ref sig .tc := ⟨.hbm, 132, rfl⟩
abbrev main_call4_v0 : Ref sig .tc := ⟨.hbm, 133, rfl⟩
abbrev main_call4_v1 : Ref sig .tc := ⟨.hbm, 134, rfl⟩
abbrev main_call4_v2 : Ref sig .tc := ⟨.hbm, 135, rfl⟩
abbrev main_v87 : Ref sig .tc := ⟨.hbm, 136, rfl⟩
abbrev main_values : Ref sig .tc := ⟨.hbm, 137, rfl⟩
abbrev main_indices : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_c_17 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_cst_18 : Ref sig .tc := ⟨.hbm, 154, rfl⟩
abbrev main_cst_19 : Ref sig .tc := ⟨.hbm, 155, rfl⟩
abbrev main_call5_v0 : Ref sig .tc := ⟨.hbm, 156, rfl⟩
abbrev main_call5_v1 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩

abbrev nD : Nat := 1
abbrev τ : Topo := Topo.v7x

variable {F : FTy → Type} [FloatOps F]
-- ==== Proof.Softmax.lean ====
module

public import Idealize.ShloMosaic.Lib.Pointwise

@[expose] public section

noncomputable section

open Idealize.ShloMosaic

namespace Cert.Softmax

/-- A score where the mask holds, −∞ where it does not. -/
def masked {κ : Type} (b : κ → Prop) [DecidablePred b] (y : κ → EReal) (k : κ) : EReal := if b k then y k else ⊥

/-- The largest score under the mask, −∞ where no key is under it. -/
def top {κ : Type} [Fintype κ] (b : κ → Prop) [DecidablePred b] (y : κ → EReal) : EReal :=
  Finset.univ.fold max ⊥ (masked b y)

/-- The unnormalised weight of a key: the exponential of its score less the largest one. -/
def weight {κ : Type} [Fintype κ] (b : κ → Prop) [DecidablePred b] (y : κ → EReal) (k : κ) : EReal :=
  Ideal.exp (masked b y k - top b y)

/-- The running maximum of the masked scores is the supremum of the scores that are not masked. -/
theorem top_eq_sup {κ : Type} [Fintype κ] (b : κ → Prop) [DecidablePred b] (y : κ → EReal) :
    top b y = Finset.univ.sup (masked b y) := rfl

/-- A nonnegative real factor goes inside a finite sum. -/
theorem sum_mul_real {κ : Type} (s : Finset κ) (z : κ → EReal) (c : ℝ) (hc : 0 ≤ c) :
    (∑ k ∈ s, z k) * (c : EReal) = ∑ k ∈ s, z k * (c : EReal) := by
  classical
  induction s using Finset.induction_on with
  | empty => simp
  | insert a s ha ih =>
    rw [Finset.sum_insert ha, Finset.sum_insert ha, ← ih]
    rw [mul_comm _ (c : EReal), mul_comm (z a), mul_comm (∑ k ∈ s, z k)]
    exact EReal.left_distrib_of_nonneg_of_ne_top (by exact_mod_cast hc) (EReal.coe_ne_top c) _ _

/-- A finite sum of reals is the same sum in the extended reals. -/
theorem coe_sum {κ : Type} (s : Finset κ) (g : κ → ℝ) : ∑ k ∈ s, ((g k : ℝ) : EReal) = ((∑ k ∈ s, g k : ℝ) : EReal) := by
  classical
  induction s using Finset.induction_on with
  | empty => simp
  | insert a s ha ih => rw [Finset.sum_insert ha, Finset.sum_insert ha, ih, EReal.coe_add]

/-- The key of one side that a key of the other side stands for: under the two masks this is a bijection. -/
structure Same {ι κ : Type} (a : ι → Prop) (b : κ → Prop) (e : ι → κ) : Prop where
  maps : ∀ i, a i → b (e i)
  inj : ∀ i i', a i → a i' → e i = e i' → i = i'
  surj : ∀ k, b k → ∃ i, a i ∧ e i = k

/-- Two sums whose terms vanish off the masks, and agree under them, are equal. -/
theorem sum_same {ι κ : Type} [Fintype ι] [Fintype κ] {a : ι → Prop} {b : κ → Prop} [DecidablePred a] [DecidablePred b] {e : ι → κ}
    (he : Same a b e) (g : ι → EReal) (h : κ → EReal) (hg : ∀ i, ¬ a i → g i = 0) (hh : ∀ k, ¬ b k → h k = 0)
    (hgh : ∀ i, a i → g i = h (e i)) : ∑ i, g i = ∑ k, h k := by
  rw [← Finset.sum_filter_of_ne (p := a) (s := Finset.univ) (f := g) (fun i _ hi => by_contra fun ha => hi (hg i ha)),
    ← Finset.sum_filter_of_ne (p := b) (s := Finset.univ) (f := h) (fun k _ hk => by_contra fun hb => hk (hh k hb))]
  refine Finset.sum_bij (fun i _ => e i) (fun i hi => ?_) (fun i hi i' hi' => ?_) (fun k hk => ?_) (fun i hi => ?_)
  · simp only [Finset.mem_filter, Finset.mem_univ, true_and] at hi ⊢; exact he.maps i hi
  · simp only [Finset.mem_filter, Finset.mem_univ, true_and] at hi hi'; exact he.inj i i' hi hi'
  · simp only [Finset.mem_filter, Finset.mem_univ, true_and] at hk
    obtain ⟨i, hi, rfl⟩ := he.surj k hk
    exact ⟨i, by simpa using hi, rfl⟩
  · simp only [Finset.mem_filter, Finset.mem_univ, true_and] at hi; exact hgh i hi

/-- The largest score is the same on both sides. -/
theorem top_same {ι κ : Type} [Fintype ι] [Fintype κ] {a : ι → Prop} {b : κ → Prop} [DecidablePred a] [DecidablePred b] {e : ι → κ}
    (he : Same a b e) (x : ι → EReal) (y : κ → EReal) (hxy : ∀ i, a i → x i = y (e i)) : top a x = top b y := by
  rw [top_eq_sup, top_eq_sup]
  refine le_antisymm (Finset.sup_le fun i _ => ?_) (Finset.sup_le fun k _ => ?_)
  · by_cases ha : a i
    · refine le_trans (le_of_eq ?_) (Finset.le_sup (f := masked b y) (Finset.mem_univ (e i)))
      rw [masked, masked, if_pos ha, if_pos (he.maps i ha), hxy i ha]
    · rw [masked, if_neg ha]; exact bot_le
  · by_cases hb : b k
    · obtain ⟨i, hi, rfl⟩ := he.surj k hb
      refine le_trans (le_of_eq ?_) (Finset.le_sup (f := masked a x) (Finset.mem_univ i))
      rw [masked, masked, if_pos hi, if_pos hb, hxy i hi]
    · rw [masked, if_neg hb]; exact bot_le

/-- A key off the mask has weight 0. -/
theorem weight_off {κ : Type} [Fintype κ] (b : κ → Prop) [DecidablePred b] (y : κ → EReal) (k : κ) (hb : ¬ b k) : weight b y k = 0 := by
  rw [weight, masked, if_neg hb, EReal.bot_sub]; rfl

/-- Where the scores under the mask are real and there is one, the weights sum to a positive real. -/
theorem sum_weight_pos {κ : Type} [Fintype κ] (b : κ → Prop) [DecidablePred b] (y : κ → EReal)
    (hy : ∀ k, b k → ∃ r : ℝ, y k = (r : EReal)) (hne : ∃ k, b k) : ∃ c : ℝ, 0 < c ∧ ∑ k, weight b y k = (c : EReal) := by
  classical
  obtain ⟨k₁, hk₁⟩ := hne
  obtain ⟨r₁, hr₁⟩ := hy k₁ hk₁
  obtain ⟨k₀, -, hk₀⟩ := Finset.exists_mem_eq_sup Finset.univ ⟨k₁, Finset.mem_univ k₁⟩ (masked b y)
  have hle : masked b y k₁ ≤ top b y := by rw [top_eq_sup]; exact Finset.le_sup (Finset.mem_univ k₁)
  rw [masked, if_pos hk₁, hr₁] at hle
  have hb₀ : b k₀ := by
    by_contra hb
    rw [top_eq_sup, hk₀, masked, if_neg hb] at hle
    exact absurd (le_bot_iff.mp hle) (EReal.coe_ne_bot r₁)
  obtain ⟨r₀, hr₀⟩ := hy k₀ hb₀
  have htop : top b y = (r₀ : EReal) := by rw [top_eq_sup, hk₀, masked, if_pos hb₀, hr₀]
  have hw : ∀ k, weight b y k = ((if b k then Real.exp ((y k).toReal - r₀) else 0 : ℝ) : EReal) := fun k => by
    by_cases hb : b k
    · obtain ⟨r, hr⟩ := hy k hb
      rw [weight, masked, if_pos hb, if_pos hb, htop, hr, ← EReal.coe_sub, EReal.toReal_coe]; rfl
    · rw [weight_off b y k hb, if_neg hb, EReal.coe_zero]
  refine ⟨_, ?_, (Finset.sum_congr rfl fun k _ => hw k).trans (coe_sum _ _)⟩
  refine Finset.sum_pos' (fun k _ => ?_) ⟨k₁, Finset.mem_univ k₁, ?_⟩
  · split <;> positivity
  · rw [if_pos hk₁]; positivity

/-- A row of attention: the kernel divides the weighted sum of the values by the sum of the weights, over the keys it
    visits; the reference divides each weight, masks it, and sums over all keys. Where the scores under the mask are real
    and there is one, the two are equal. -/
theorem row {ι κ : Type} [Fintype ι] [Fintype κ] {a : ι → Prop} {b : κ → Prop} [DecidablePred a] [DecidablePred b] {e : ι → κ}
    (he : Same a b e) (x u : ι → EReal) (y v : κ → EReal) (hxy : ∀ i, a i → x i = y (e i)) (huv : ∀ i, a i → u i = v (e i))
    (hy : ∀ k, b k → ∃ r : ℝ, y k = (r : EReal)) (hne : ∃ k, b k) :
    Ideal.div (∑ i, (if a i then weight a x i else 0) * u i) (∑ i, if a i then weight a x i else 0)
      = ∑ k, Ideal.div (weight b y k) (∑ k, weight b y k) * (if b k then 1 else 0) * v k := by
  have ht := top_same he x y hxy
  have hw : ∀ i, a i → weight a x i = weight b y (e i) := fun i hi => by
    rw [weight, weight, ht, masked, masked, if_pos hi, if_pos (he.maps i hi), hxy i hi]
  rw [sum_same he (fun i => if a i then weight a x i else 0) (weight b y) (fun i hi => if_neg hi) (weight_off b y)
      (fun i hi => (if_pos hi).trans (hw i hi)),
    sum_same he (fun i => (if a i then weight a x i else 0) * u i) (fun k => weight b y k * v k)
      (fun i hi => by rw [if_neg hi, zero_mul]) (fun k hk => by rw [weight_off b y k hk, zero_mul])
      (fun i hi => by rw [if_pos hi, hw i hi, huv i hi])]
  obtain ⟨c, hc, hs⟩ := sum_weight_pos b y hy hne
  rw [hs, Ideal.div_coe hc.ne', sum_mul_real _ _ _ (by positivity)]
  refine Finset.sum_congr rfl fun k _ => ?_
  rw [Ideal.div_coe hc.ne']
  by_cases hb : b k
  · rw [if_pos hb, mul_one, mul_right_comm]
  · rw [weight_off b y k hb]; simp

/-- A row of attention whose weights the kernel scales before the product, by the reciprocal of their sum where that is
    positive and by 0 where it is not. Where the scores under the mask are real, it is the reference's row; a row with no
    key under the mask is 0 on both sides. -/
theorem row_scaled {ι κ : Type} [Fintype ι] [Fintype κ] {a : ι → Prop} {b : κ → Prop} [DecidablePred a] [DecidablePred b] {e : ι → κ}
    (he : Same a b e) (x u : ι → EReal) (y v : κ → EReal) (hxy : ∀ i, a i → x i = y (e i)) (huv : ∀ i, a i → u i = v (e i))
    (hy : ∀ k, b k → ∃ r : ℝ, y k = (r : EReal)) :
    ∑ i, (if a i then weight a x i else 0)
        * (if 0 < ∑ i, (if a i then weight a x i else 0) then Ideal.div 1 (∑ i, if a i then weight a x i else 0) else 0) * u i
      = ∑ k, Ideal.div (weight b y k) (∑ k, weight b y k) * (if b k then 1 else 0) * v k := by
  have ht := top_same he x y hxy
  have hw : ∀ i, a i → weight a x i = weight b y (e i) := fun i hi => by
    rw [weight, weight, ht, masked, masked, if_pos hi, if_pos (he.maps i hi), hxy i hi]
  rw [sum_same he (fun i => if a i then weight a x i else 0) (weight b y) (fun i hi => if_neg hi) (weight_off b y)
      (fun i hi => (if_pos hi).trans (hw i hi))]
  refine sum_same he _ _ (fun i hi => by rw [if_neg hi, zero_mul, zero_mul]) (fun k hk => by rw [if_neg hk, mul_zero, zero_mul])
    fun i hi => ?_
  obtain ⟨c, hc, hs⟩ := sum_weight_pos b y hy ⟨e i, he.maps i hi⟩
  rw [hs, if_pos hi, if_pos (he.maps i hi), if_pos (by exact_mod_cast hc), hw i hi, huv i hi, Ideal.div_coe hc.ne',
    Ideal.div_coe hc.ne', one_mul, mul_one]

end Cert.Softmax

end
-- ==== Proof.Words.lean ====
module

public import Idealize.ShloMosaic.Lib.Pointwise

@[expose] public section

/-! The window mask as arithmetic of words, and the two infinite constants. -/

open Idealize.ShloMosaic Idealize.ShloMosaic.TcCoe

namespace Cert.Words

/-- A small natural number, as a word of 32 bits, reads back as itself. -/
theorem toInt_small (n : ℕ) (h : n < 1024) : (BitVec.ofNat 32 n).toInt = n := by
  rw [BitVec.toInt_eq_toNat_of_lt] <;> simp <;> omega

/-- Position of key `j` of the window of block `i`, less the 512 positions in front. -/
theorem off (i j : ℕ) (hi : i < 32) (hj : j < 768) :
    (BitVec.ofNat 32 i * 256#32 - 512#32 + BitVec.ofNat 32 j).toInt = 256 * (i : ℤ) + j - 512 := by
  simp only [BitVec.toInt_add, BitVec.toInt_sub, BitVec.toInt_mul, toInt_small i (by omega), toInt_small j (by omega), toInt_small 256 (by omega), toInt_small 512 (by omega), Int.bmod_def]
  omega

/-- Position of query `r` of block `i`. -/
theorem pos (i r : ℕ) (hi : i < 32) (hr : r < 256) :
    (BitVec.ofNat 32 i * 256#32 + BitVec.ofNat 32 r).toInt = 256 * (i : ℤ) + r := by
  simp only [BitVec.toInt_add, BitVec.toInt_sub, BitVec.toInt_mul, toInt_small i (by omega), toInt_small r (by omega), toInt_small 256 (by omega), Int.bmod_def]
  omega

/-- The position 512 before query `r` of block `i`. -/
theorem pos' (i r : ℕ) (hi : i < 32) (hr : r < 256) :
    (BitVec.ofNat 32 i * 256#32 + BitVec.ofNat 32 r - 512#32).toInt = 256 * (i : ℤ) + r - 512 := by
  simp only [BitVec.toInt_add, BitVec.toInt_sub, BitVec.toInt_mul, toInt_small i (by omega), toInt_small r (by omega), toInt_small 256 (by omega), toInt_small 512 (by omega), Int.bmod_def]
  omega

/-- The conjunction of two bits. -/
theorem ofBool_and (a b : Bool) : BitVec.ofBool a &&& BitVec.ofBool b = BitVec.ofBool (a && b) := by
  cases a <;> cases b <;> rfl

/-- The three word comparisons of the body: key `j` of the window is not after query `r`, is fewer than 512 positions before it, and is a
    position of the sequence. -/
theorem mask (i r j : ℕ) (hi : i < 32) (hr : r < 256) (hj : j < 768) :
   IntOp.andi (IntOp.andi (IntOp.cmpi .sle (IntOp.addi (Scalar.subi (Scalar.muli (BitVec.ofNat 32 i) 256#32) 512#32) (BitVec.ofNat 32 j)) (IntOp.addi (Scalar.muli (BitVec.ofNat 32 i) 256#32) (BitVec.ofNat 32 r)))
     (IntOp.cmpi .sgt (IntOp.addi (Scalar.subi (Scalar.muli (BitVec.ofNat 32 i) 256#32) 512#32) (BitVec.ofNat 32 j)) (IntOp.subi (IntOp.addi (Scalar.muli (BitVec.ofNat 32 i) 256#32) (BitVec.ofNat 32 r)) 512#32)))
     (IntOp.cmpi .sge (IntOp.addi (Scalar.subi (Scalar.muli (BitVec.ofNat 32 i) 256#32) 512#32) (BitVec.ofNat 32 j)) 0#32) = BitVec.ofBool (decide (j ≤ r + 512 ∧ r < j ∧ 512 ≤ 256 * i + j)) := by
  have h1 := off i j hi hj
  have h2 := pos i r hi hr
  have h3 := pos' i r hi hr
  simp only [IntOp.andi, IntOp.cmpi, IntOp.addi, IntOp.subi, Scalar.subi, Scalar.muli, IntOp.muli, BitVec.sle_eq_decide, BitVec.slt_eq_decide, h1, h2, h3, ofBool_and]
  congr 1
  simp [← Bool.decide_and]
  omega

/-- The pattern of minus infinity. -/
theorem negInf : Ideal.ofBits .f32 0xFF800000#32 = ⊥ := by
  simp [Ideal.ofBits, Ideal.ieee]

/-- The pattern of infinity. -/
theorem posInf : Ideal.ofBits .f32 0x7F800000#32 = ⊤ := by
  simp [Ideal.ofBits, Ideal.ieee]

end Cert.Words
-- ==== Proof.WinBlock.lean ====
module

public import proofs.«01_k».proof.Proof.Gen.WinIdeal.Skeleton
public import proofs.«01_k».proof.Proof.Softmax
public import proofs.«01_k».proof.Proof.Words
public import Idealize.ShloMosaic.Lib.Pointwise
public import Idealize.ShloMosaic.Lib.WordCmp

@[expose] public section

set_option maxRecDepth 16384
noncomputable section

open Idealize.ShloMosaic Idealize.ShloMosaic.TcCoe Idealize.SL.Sem

namespace Cert.WinIdeal.Block

open Cert.WinIdeal Cert.WinIdeal.Gen

/-- The three blocks of keys (or of values) side by side, read at a position of the window. -/
def cat (v0 v1 v2 : FVec Ideal S1x1x256x64 .bf16) (j : Fin 768) (d : Fin 64) : EReal :=
  if h0 : j.val < 256 then v0 (ix4 0 0 ⟨j.val, h0⟩ d)
  else if h1 : j.val - 256 < 256 then v1 (ix4 0 0 ⟨j.val - 256, h1⟩ d)
  else v2 (ix4 0 0 ⟨j.val - 256 - 256, by omega⟩ d)

/-- The stacked value blocks at a position: the block the position falls into, at its own row. -/
theorem values (v0 v1 v2 : FVec Ideal S1x1x256x64 .bf16) (j : Fin 768) (d : Fin 64) :
    k0_pay2 (F := Ideal) v0 v1 v2 (ix2 j d) = cat v0 v1 v2 j d := by
  pointwise [k0_pay2, cat]

/-- A score of the block: the product of a query and the key at the position, summed over the entries of a head. -/
theorem scores (q : FVec Ideal S1x8x256x64 .bf16) (k0 k1 k2 : FVec Ideal S1x1x256x64 .bf16) (h : Fin 8) (r : Fin 256) (j : Fin 768) :
    k0_pay3 (F := Ideal) k0 k1 k2 q (ix2 ⟨h.val * 256 + r.val, by omega⟩ j) = ∑ e : Fin 64, q (ix4 0 h r e) * cat k0 k1 k2 j e := by
  pointwise [k0_pay3, cat]

/-- Whether query `r` of block `i` looks at position `j` of its window. -/
def seen (i : ℕ) (r : Fin 256) (j : Fin 768) : Prop := j.val ≤ r.val + 512 ∧ r.val < j.val ∧ 512 ≤ 256 * i + j.val

instance (i : ℕ) (r : Fin 256) : DecidablePred (seen i r) := fun j => by unfold seen; infer_instance

/-- The constant that masks a score is minus infinity. -/
theorem mask_const : (Named.named (F := Ideal) κ "mask" (φ := .f32) 4048155338#32 : EReal) = ⊥ :=
  IdealRules.named_const.ideal_named_scalar κ "mask" _ ⊥ rfl

/-- What the body stores: the weighted sum of the values over the sum of the weights, both over the positions looked at. -/
theorem stored (i : grid0.Coords) (s : FVec Ideal S2048x768 .f32) (v : FVec Ideal S768x64 .bf16)
    (h : Fin 8) (r : Fin 256) (d : Fin 64) :
    k0_pay1 (F := Ideal) v s (k0_pay4 i) (Scalar.subi (Scalar.muli (BitVec.ofNat 32 (i 2).val) 256#32) 512#32)
      (iota .tc S256x768 32 [1] iota_S256x768_d1_w32) (ix4 0 h r d)
    = Ideal.div
        (∑ j, (if seen (i 2).val r j then Softmax.weight (seen (i 2).val r) (fun j => s (ix2 ⟨h.val * 256 + r.val, by omega⟩ j)) j else 0)
          * v (ix2 j d))
        (∑ j, if seen (i 2).val r j then Softmax.weight (seen (i 2).val r) (fun j => s (ix2 ⟨h.val * 256 + r.val, by omega⟩ j)) j else 0) := by
  have hm := fun x : Fin 768 => Words.mask (i 2).val r.val x.val (i 2).isLt r.isLt x.isLt
  pointwise [k0_pay1, k0_pay4]
  simp only [hm, mask_const, Words.negInf, WordCmp.select_decide, ite_mul, zero_mul]
  rfl

end Cert.WinIdeal.Block
end
-- ==== Proof.WinKeys.lean ====
module

public import proofs.«01_k».proof.Proof.Gen.WinIdeal.Value
public import proofs.«01_k».proof.Proof.WinBlock
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.WinIdeal.Keys

open Cert.WinIdeal Cert.WinIdeal.Gen

variable (m : (ℓ : Loc nD τ sig) → Buf (Elt Ideal) ℓ)

/-- Each window's block index at a grid point. -/
theorem idx : ∀ t : Fin cfg0.N,
    win0_0.index t = ![(grid0.coords t 0).val, (grid0.coords t 1).val, (grid0.coords t 2).val, 0]
    ∧ win0_1.index t = ![(grid0.coords t 0).val, (grid0.coords t 1).val, (grid0.coords t 2).val, 0]
    ∧ win0_2.index t = ![(grid0.coords t 0).val, (grid0.coords t 1).val, (grid0.coords t 2).val + 1, 0]
    ∧ win0_3.index t = ![(grid0.coords t 0).val, (grid0.coords t 1).val, (grid0.coords t 2).val + 2, 0]
    ∧ win0_4.index t = ![(grid0.coords t 0).val, (grid0.coords t 1).val, (grid0.coords t 2).val, 0]
    ∧ win0_5.index t = ![(grid0.coords t 0).val, (grid0.coords t 1).val, (grid0.coords t 2).val + 1, 0]
    ∧ win0_6.index t = ![(grid0.coords t 0).val, (grid0.coords t 1).val, (grid0.coords t 2).val + 2, 0]
    ∧ win0_7.index t = ![(grid0.coords t 0).val, (grid0.coords t 1).val, (grid0.coords t 2).val, 0] :=
  (by decide +kernel : ∀ t : Fin grid0.N, _)

/-- An array with 512 positions in front, at a position after those. -/
theorem pad_at (x : FVec Ideal S4x2x8192x64 .bf16) (z : FVec Ideal S_ .bf16) (b : Fin 4) (g : Fin 2) (p : Fin 8192) (d : Fin 64) :
    pad S4x2x8704x64 ![0, 0, 512, 0] ![0, 0, 0, 0] ![0, 0, 0, 0] x z pads_S4x2x8192x64_S4x2x8704x64_000_000_51200_000 h_S_
      (ix4 b g (⟨p.val + 512, by omega⟩ : Fin 8704) d) = x (ix4 b g p d) := by
  pointwise
  rw [dif_pos (by omega : p.val + 512 - 512 < 8192)]
  exact congrArg x (by congr 1)

/-- What the region finds in the padded keys: the argument with 512 positions of zeros in front. -/
theorem entryK (c : Dev nD) : V m c main_v0
    = (pad S4x2x8704x64 ![0, 0, 512, 0] ![0, 0, 0, 0] ![0, 0, 0, 0] (m ((c : Thread nD τ).loc main_arg1))
        (sitofp (F := Ideal) .bf16 (constantI S_ 32 0#32)) pads_S4x2x8192x64_S4x2x8704x64_000_000_51200_000 h_S_ : FVec Ideal S4x2x8704x64 .bf16) := by
  unfold V
  simp only [List.flatten_cons, List.flatten_nil, hostOps0, hostOps0_1, hostOps0_2, hostOps0_3, List.cons_append, List.nil_append]
  after_results
  rfl

/-- The padded keys at a position after the 512 in front: the argument. -/
theorem padK (c : Dev nD) (b : Fin 4) (g : Fin 2) (p : Fin 8192) (P : Fin 8704) (hP : P.val = p.val + 512) (d : Fin 64) :
    V m c main_v0 (ix4 b g P d) = m ((c : Thread nD τ).loc main_arg1) (ix4 b g p d) := by
  have e : P = ⟨p.val + 512, by omega⟩ := Fin.ext hP
  rw [e, entryK]
  exact pad_at _ _ b g p d

/-- What the region finds in the padded values: the argument with 512 positions of zeros in front. -/
theorem entryV (c : Dev nD) : V m c main_v1
    = (pad S4x2x8704x64 ![0, 0, 512, 0] ![0, 0, 0, 0] ![0, 0, 0, 0] (m ((c : Thread nD τ).loc main_arg2))
        (sitofp (F := Ideal) .bf16 (constantI S_ 32 0#32)) pads_S4x2x8192x64_S4x2x8704x64_000_000_51200_000 h_S_ : FVec Ideal S4x2x8704x64 .bf16) := by
  unfold V
  simp only [List.flatten_cons, List.flatten_nil, hostOps0, hostOps0_1, hostOps0_2, hostOps0_3, List.cons_append, List.nil_append]
  after_results
  rfl

/-- The padded values at a position after the 512 in front: the argument. -/
theorem padV (c : Dev nD) (b : Fin 4) (g : Fin 2) (p : Fin 8192) (P : Fin 8704) (hP : P.val = p.val + 512) (d : Fin 64) :
    V m c main_v1 (ix4 b g P d) = m ((c : Thread nD τ).loc main_arg2) (ix4 b g p d) := by
  have e : P = ⟨p.val + 512, by omega⟩ := Fin.ext hP
  rw [e, entryV]
  exact pad_at _ _ b g p d

/-! Each window's block at an index of it, as an entry of the padded array. -/

/-- The first block of the keys at a grid point, as the padded array at its rows. -/
theorem blockK0 (c : Dev nD) (t : Fin cfg0.N) (b : Fin 4) (g : Fin 2) (i : Fin 32) (hb : (grid0.coords t 0).val = b.val)
    (hg : (grid0.coords t 1).val = g.val) (hi : (grid0.coords t 2).val = i.val) (r : Fin 256) (d : Fin 64) :
    iblk m c 1 t (ix4 0 0 r d) = V m c main_v0 (ix4 b g (⟨256 * i.val + 0 + r.val, by omega⟩ : Fin 8704) d) := by
  blk_ext [iblk, idx t]

/-- The second block of the keys at a grid point, as the padded array at its rows. -/
theorem blockK1 (c : Dev nD) (t : Fin cfg0.N) (b : Fin 4) (g : Fin 2) (i : Fin 32) (hb : (grid0.coords t 0).val = b.val)
    (hg : (grid0.coords t 1).val = g.val) (hi : (grid0.coords t 2).val = i.val) (r : Fin 256) (d : Fin 64) :
    iblk m c 2 t (ix4 0 0 r d) = V m c main_v0 (ix4 b g (⟨256 * i.val + 256 + r.val, by omega⟩ : Fin 8704) d) := by
  blk_ext [iblk, idx t]

/-- The third block of the keys at a grid point, as the padded array at its rows. -/
theorem blockK2 (c : Dev nD) (t : Fin cfg0.N) (b : Fin 4) (g : Fin 2) (i : Fin 32) (hb : (grid0.coords t 0).val = b.val)
    (hg : (grid0.coords t 1).val = g.val) (hi : (grid0.coords t 2).val = i.val) (r : Fin 256) (d : Fin 64) :
    iblk m c 3 t (ix4 0 0 r d) = V m c main_v0 (ix4 b g (⟨256 * i.val + 512 + r.val, by omega⟩ : Fin 8704) d) := by
  blk_ext [iblk, idx t]

/-- The first block of the values at a grid point, as the padded array at its rows. -/
theorem blockV0 (c : Dev nD) (t : Fin cfg0.N) (b : Fin 4) (g : Fin 2) (i : Fin 32) (hb : (grid0.coords t 0).val = b.val)
    (hg : (grid0.coords t 1).val = g.val) (hi : (grid0.coords t 2).val = i.val) (r : Fin 256) (d : Fin 64) :
    iblk m c 4 t (ix4 0 0 r d) = V m c main_v1 (ix4 b g (⟨256 * i.val + 0 + r.val, by omega⟩ : Fin 8704) d) := by
  blk_ext [iblk, idx t]

/-- The second block of the values at a grid point, as the padded array at its rows. -/
theorem blockV1 (c : Dev nD) (t : Fin cfg0.N) (b : Fin 4) (g : Fin 2) (i : Fin 32) (hb : (grid0.coords t 0).val = b.val)
    (hg : (grid0.coords t 1).val = g.val) (hi : (grid0.coords t 2).val = i.val) (r : Fin 256) (d : Fin 64) :
    iblk m c 5 t (ix4 0 0 r d) = V m c main_v1 (ix4 b g (⟨256 * i.val + 256 + r.val, by omega⟩ : Fin 8704) d) := by
  blk_ext [iblk, idx t]

/-- The third block of the values at a grid point, as the padded array at its rows. -/
theorem blockV2 (c : Dev nD) (t : Fin cfg0.N) (b : Fin 4) (g : Fin 2) (i : Fin 32) (hb : (grid0.coords t 0).val = b.val)
    (hg : (grid0.coords t 1).val = g.val) (hi : (grid0.coords t 2).val = i.val) (r : Fin 256) (d : Fin 64) :
    iblk m c 6 t (ix4 0 0 r d) = V m c main_v1 (ix4 b g (⟨256 * i.val + 512 + r.val, by omega⟩ : Fin 8704) d) := by
  blk_ext [iblk, idx t]

/-- The three blocks of keys side by side hold the argument's keys, 512 positions later. -/
theorem catK (c : Dev nD) (t : Fin cfg0.N) (b : Fin 4) (g : Fin 2) (i : Fin 32) (hb : (grid0.coords t 0).val = b.val)
    (hg : (grid0.coords t 1).val = g.val) (hi : (grid0.coords t 2).val = i.val) (j : Fin 768) (p : Fin 8192) (hp : 256 * i.val + j.val = p.val + 512)
    (d : Fin 64) : Block.cat (iblk m c 1 t) (iblk m c 2 t) (iblk m c 3 t) j d = m ((c : Thread nD τ).loc main_arg1) (ix4 b g p d) := by
  unfold Block.cat
  by_cases h0 : j.val < 256
  · rw [dif_pos h0]
    refine (blockK0 m c t b g i hb hg hi ⟨j.val, h0⟩ d).trans (padK m c b g p _ ?_ d)
    dsimp only; omega
  · rw [dif_neg h0]
    by_cases h1 : j.val - 256 < 256
    · rw [dif_pos h1]
      refine (blockK1 m c t b g i hb hg hi ⟨j.val - 256, h1⟩ d).trans (padK m c b g p _ ?_ d)
      dsimp only; omega
    · rw [dif_neg h1]
      refine (blockK2 m c t b g i hb hg hi ⟨j.val - 256 - 256, by omega⟩ d).trans (padK m c b g p _ ?_ d)
      dsimp only; omega

/-- The three blocks of values side by side hold the argument's values, 512 positions later. -/
theorem catV (c : Dev nD) (t : Fin cfg0.N) (b : Fin 4) (g : Fin 2) (i : Fin 32) (hb : (grid0.coords t 0).val = b.val)
    (hg : (grid0.coords t 1).val = g.val) (hi : (grid0.coords t 2).val = i.val) (j : Fin 768) (p : Fin 8192) (hp : 256 * i.val + j.val = p.val + 512)
    (d : Fin 64) : Block.cat (iblk m c 4 t) (iblk m c 5 t) (iblk m c 6 t) j d = m ((c : Thread nD τ).loc main_arg2) (ix4 b g p d) := by
  unfold Block.cat
  by_cases h0 : j.val < 256
  · rw [dif_pos h0]
    refine (blockV0 m c t b g i hb hg hi ⟨j.val, h0⟩ d).trans (padV m c b g p _ ?_ d)
    dsimp only; omega
  · rw [dif_neg h0]
    by_cases h1 : j.val - 256 < 256
    · rw [dif_pos h1]
      refine (blockV1 m c t b g i hb hg hi ⟨j.val - 256, h1⟩ d).trans (padV m c b g p _ ?_ d)
      dsimp only; omega
    · rw [dif_neg h1]
      refine (blockV2 m c t b g i hb hg hi ⟨j.val - 256 - 256, by omega⟩ d).trans (padV m c b g p _ ?_ d)
      dsimp only; omega

/-- The block of queries at an index of it. -/
theorem queries (c : Dev nD) (t : Fin cfg0.N) (b : Fin 4) (g : Fin 2) (i : Fin 32) (hb : (grid0.coords t 0).val = b.val)
    (hg : (grid0.coords t 1).val = g.val) (hi : (grid0.coords t 2).val = i.val) (h : Fin 8) (r : Fin 256) (d : Fin 64) :
    iblk m c 0 t (ix4 0 h r d) = m ((c : Thread nD τ).loc main_arg0)
      (ix4 b (⟨g.val * 8 + h.val, by omega⟩ : Fin 16) (⟨256 * i.val + r.val, by omega⟩ : Fin 8192) d) := by
  blk_ext [iblk, V, idx t]

end Cert.WinIdeal.Keys

end
-- ==== Proof.WinRef.lean ====
module

public import proofs.«01_k».proof.Proof.Gen.WinRefIdeal.Run
public import proofs.«01_k».proof.Proof.Softmax
public import proofs.«01_k».proof.Proof.Words
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.WinRef

open Cert.WinRefIdeal Cert.WinRefIdeal.Gen

/-- Which key positions a query position looks at, as the reference computes it. -/
def mask : IVec S8192x8192 1 :=
  andi (cmpi .sle (broadcastInDim S8192x8192 ![0, 1] bcast_S1x8192_S8192x8192_0_1 (broadcastInDim S1x8192 ![1] bcast_S8192_S1x8192_1 (iotaInDim S8192 32 0)))
      (broadcastInDim S8192x8192 ![0, 1] bcast_S8192x1_S8192x8192_0_1 (broadcastInDim S8192x1 ![0] bcast_S8192_S8192x1_0 (iotaInDim S8192 32 0))))
    (cmpi .sgt (broadcastInDim S8192x8192 ![0, 1] bcast_S1x8192_S8192x8192_0_1 (broadcastInDim S1x8192 ![1] bcast_S8192_S1x8192_1 (iotaInDim S8192 32 0)))
      (broadcastInDim S8192x8192 ![0, 1] bcast_S8192x1_S8192x8192_0_1 (subi (broadcastInDim S8192x1 ![0] bcast_S8192_S8192x1_0 (iotaInDim S8192 32 0))
        (broadcastInDim S8192x1 ![] bcast_S_S8192x1 (constantI S_ 32 512#32)))))

/-- The scores of every query against every key. -/
def score (q : FVec Ideal S4x16x8192x64 .bf16) (k : FVec Ideal S4x2x8192x64 .bf16) : FVec Ideal S4x2x8x8192x8192 .f32 :=
  Host.dotGeneral dot_S4x2x8x8192x64_S4x2x8192x64_S4x2x8x8192x8192_4_3_23_2_01_01 none
    (shapeCast _ (extf .f32 q bitsLt_bf16_f32) shapeCasts_S4x16x8192x64_S4x2x8x8192x64) (extf .f32 k bitsLt_bf16_f32)

/-- The scores with −∞ outside the window. -/
def masked (s : FVec Ideal S4x2x8x8192x8192 .f32) : FVec Ideal S4x2x8x8192x8192 .f32 :=
  select (broadcastInDim S4x2x8x8192x8192 ![3, 4] bcast_S8192x8192_S4x2x8x8192x8192_3_4 mask) s
    (broadcastInDim S4x2x8x8192x8192 ![] bcast_S_S4x2x8x8192x8192 (id (constant S_ .f32 0xFF800000#32)))

/-- The largest masked score of each query. -/
def top (y : FVec Ideal S4x2x8x8192x8192 .f32) : FVec Ideal S4x2x8x8192 .f32 :=
  maximumf (broadcastInDim S4x2x8x8192 ![] bcast_S_S4x2x8x8192 (constant S_ .f32 0xFF800000#32))
    (Host.reduce FloatOps.maximumf y (constant S_ .f32 0xFF800000#32) reducesTo_S4x2x8x8192x8192_S4x2x8x8192_d4 h_S_)

/-- One number per query, repeated along the keys. -/
def spread (x : FVec Ideal S4x2x8x8192 .f32) : FVec Ideal S4x2x8x8192x8192 .f32 :=
  broadcastInDim S4x2x8x8192x8192 ![0, 1, 2, 3, 4] bcast_S4x2x8x8192x1_S4x2x8x8192x8192_0_1_2_3_4
    (broadcastInDim S4x2x8x8192x1 ![0, 1, 2, 3] bcast_S4x2x8x8192_S4x2x8x8192x1_0_1_2_3 x)

/-- The unnormalised weights. -/
def weight (y : FVec Ideal S4x2x8x8192x8192 .f32) : FVec Ideal S4x2x8x8192x8192 .f32 :=
  Host.exp (subf y (spread (top y)))

/-- The normalised weights, zeroed outside the window. -/
def prob (w : FVec Ideal S4x2x8x8192x8192 .f32) : FVec Ideal S4x2x8x8192x8192 .f32 :=
  mulf (Host.divf w (spread (Host.reduceAdd w (constant S_ .f32 0x00000000#32) reducesTo_S4x2x8x8192x8192_S4x2x8x8192_d4 h_S_)))
    (broadcastInDim S4x2x8x8192x8192 ![0, 1, 2, 3, 4] bcast_S1x1x1x8192x8192_S4x2x8x8192x8192_0_1_2_3_4
      (broadcastInDim S1x1x1x8192x8192 ![3, 4] bcast_S8192x8192_S1x1x1x8192x8192_3_4 (uitofp .f32 mask)))

/-- The values weighted. -/
def mix (p : FVec Ideal S4x2x8x8192x8192 .f32) (v : FVec Ideal S4x2x8192x64 .bf16) : FVec Ideal S4x16x8192x64 .bf16 :=
  truncf .bf16 (shapeCast _ (Host.dotGeneral dot_S4x2x8x8192x8192_S4x2x8192x64_S4x2x8x8192x64_4_2_23_3_01_01 none p (extf .f32 v bitsLt_bf16_f32))
    shapeCasts_S4x2x8x8192x64_S4x16x8192x64) bitsLt_bf16_f32

/-- The reference's attention of queries, keys and values. -/
def attention (q : FVec Ideal S4x16x8192x64 .bf16) (k v : FVec Ideal S4x2x8192x64 .bf16) : FVec Ideal S4x16x8192x64 .bf16 :=
  mix (prob (weight (masked (score q k)))) v

/-- The reference's run ends with this attention of its arguments. -/
theorem result_eq (m : (ℓ : Loc nD τ sig) → Buf (Elt Ideal) ℓ) (c : Dev nD) :
    Cert.WinRefIdeal.Value.res_out0 m c = attention (m ((c.tc : Thread nD τ).loc main_arg0)) (m ((c.tc : Thread nD τ).loc main_arg1)) (m ((c.tc : Thread nD τ).loc main_arg2)) := rfl

end Cert.WinRef

end
-- ==== Proof.WinRefAt.lean ====
module

public import proofs.«01_k».proof.Proof.WinRef
public import proofs.«01_k».proof.Proof.Softmax
public import proofs.«01_k».proof.Proof.Words
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.WinRef

open Cert.WinRefIdeal Cert.WinRefIdeal.Gen

/-- Whether the query at position `t` looks at the key at position `s`: `t - 512 < s ≤ t`. -/
def seen (t s : Fin 8192) : Prop := s.val ≤ t.val ∧ t.val < s.val + 512

instance (t : Fin 8192) : DecidablePred (seen t) := fun s => by unfold seen; infer_instance

/-- A position as a 32-bit word is its number. -/
theorem toInt_lt (n : ℕ) (h : n < 8192) : (BitVec.ofNat 32 n).toInt = n := by
  rw [BitVec.toInt_eq_toNat_of_lt] <;> simp <;> omega

/-- A position less the width of the window, as a word, is the difference. -/
theorem before (t : ℕ) (h : t < 8192) : (BitVec.ofNat 32 t - 512#32).toInt = (t : ℤ) - 512 := by
  simp only [BitVec.toInt_sub, toInt_lt t h, toInt_lt 512 (by omega), Int.bmod_def]
  omega

/-- The mask at a pair of positions. -/
theorem mask_at (t s : Fin 8192) : mask (ix2 t s) = BitVec.ofBool (decide (seen t s)) := by
  have h1 := toInt_lt s.val s.isLt
  have h2 := toInt_lt t.val t.isLt
  have h3 := before t.val t.isLt
  pointwise [mask]
  simp only [IntOp.andi, IntOp.cmpi, IntOp.subi, BitVec.sle_eq_decide, BitVec.slt_eq_decide, h1, h2, h3, Words.ofBool_and, seen]
  congr 1
  simp [← Bool.decide_and]
  omega

/-- A score: the products of a query's and a key's entries, summed. -/
theorem score_at (q : FVec Ideal S4x16x8192x64 .bf16) (k : FVec Ideal S4x2x8192x64 .bf16) (b : Fin 4) (g : Fin 2) (h : Fin 8) (t s : Fin 8192) :
    score q k (ix5 b g h t s) = ∑ e : Fin 64, q (ix4 b ⟨g.val * 8 + h.val, by omega⟩ t e) * k (ix4 b g s e) := by
  pointwise [score]

/-- A masked score of the reference. -/
theorem masked_at (y : FVec Ideal S4x2x8x8192x8192 .f32) (b : Fin 4) (g : Fin 2) (h : Fin 8) (t s : Fin 8192) :
    masked y (ix5 b g h t s) = Softmax.masked (seen t) (fun s => y (ix5 b g h t s)) s := by
  have hm := mask_at t s
  pointwise [masked]
  simp only [hm, WordCmp.select_decide, Softmax.masked]
  exact congrArg (fun z => if seen t s then y (ix5 b g h t s) else z) Words.negInf

/-- The maximum along the last of five axes, and of the initial value once more, at an index. Stated for any sizes. -/
theorem max_last {n0 n1 n2 n3 n4 : ℕ} (h : (⟨5, ![n0, n1, n2, n3, n4]⟩ : Shape).ReducesTo [4] (⟨4, ![n0, n1, n2, n3]⟩ : Shape))
    (hu : 0 < (⟨0, ![]⟩ : Shape).numel) (hb : (⟨0, ![]⟩ : Shape).BroadcastsInDim (⟨4, ![n0, n1, n2, n3]⟩ : Shape) ![])
    (y : FVec Ideal ⟨5, ![n0, n1, n2, n3, n4]⟩ .f32) (z : BitVec 32) (a : Fin n0) (b : Fin n1) (c : Fin n2) (d : Fin n3) :
    maximumf (broadcastInDim ⟨4, ![n0, n1, n2, n3]⟩ ![] hb (constant (F := Ideal) ⟨0, ![]⟩ .f32 z))
        (Host.reduce (FloatOps.maximumf (F := Ideal)) y (constant ⟨0, ![]⟩ .f32 z) h hu) (ix4 a b c d)
      = max (Ideal.ofBits .f32 z) (Finset.univ.fold max (Ideal.ofBits .f32 z) (fun s => y (ix5 a b c d s))) := by
  pointwise

/-- The largest masked score of a query. -/
theorem top_at (y : FVec Ideal S4x2x8x8192x8192 .f32) (b : Fin 4) (g : Fin 2) (h : Fin 8) (t : Fin 8192) :
    top y (ix4 b g h t) = Finset.univ.fold max ⊥ (fun s => y (ix5 b g h t s)) := by
  rw [top]
  refine (max_last _ _ _ y _ b g h t).trans ?_
  rw [Words.negInf]
  exact max_eq_right bot_le

/-- A value per query, spread over the keys. -/
theorem spread_at (x : FVec Ideal S4x2x8x8192 .f32) (b : Fin 4) (g : Fin 2) (h : Fin 8) (t s : Fin 8192) :
    spread x (ix5 b g h t s) = x (ix4 b g h t) := by
  pointwise [spread]

/-- A weight before the mask: the exponential of the score less the largest. -/
theorem weight_raw (y : FVec Ideal S4x2x8x8192x8192 .f32) (b : Fin 4) (g : Fin 2) (h : Fin 8) (t s : Fin 8192) :
    weight y (ix5 b g h t s) = Ideal.exp (y (ix5 b g h t s) - spread (top y) (ix5 b g h t s)) := by
  pointwise [weight]

/-- A weight of the reference. -/
theorem weight_at (y : FVec Ideal S4x2x8x8192x8192 .f32) (b : Fin 4) (g : Fin 2) (h : Fin 8) (t s : Fin 8192) :
    weight (masked y) (ix5 b g h t s) = Softmax.weight (seen t) (fun s => y (ix5 b g h t s)) s := by
  rw [weight_raw, spread_at, top_at]
  simp only [masked_at]
  rw [Softmax.weight, Softmax.top]

/-- A weight divided by the sum of the weights of its query, and 0 for a key the query does not see. -/
theorem prob_at (w : FVec Ideal S4x2x8x8192x8192 .f32) (b : Fin 4) (g : Fin 2) (h : Fin 8) (t s : Fin 8192) :
    prob w (ix5 b g h t s) = Ideal.div (w (ix5 b g h t s)) (∑ s, w (ix5 b g h t s)) * (if seen t s then 1 else 0) := by
  have hm := mask_at t s
  pointwise [prob, spread]
  rw [hm]
  refine congrArg (Ideal.div (w (ix5 b g h t s)) (∑ x, w (ix5 b g h t x)) * ·) ?_
  by_cases hs : seen t s
  · simp [hs, FloatOps.uitofp]
  · simp [hs, FloatOps.uitofp]

/-- The sum of the values times their shares. -/
theorem mix_at (p : FVec Ideal S4x2x8x8192x8192 .f32) (v : FVec Ideal S4x2x8192x64 .bf16) (b : Fin 4) (g : Fin 2) (h : Fin 8) (t : Fin 8192) (d : Fin 64) :
    mix p v (ix4 b ⟨g.val * 8 + h.val, by omega⟩ t d) = ∑ s : Fin 8192, p (ix5 b g h t s) * v (ix4 b g s d) := by
  pointwise [mix]

/-- The reference's attention at an index: the values the query looks at, weighted by its softmax. -/
theorem attention_at (q : FVec Ideal S4x16x8192x64 .bf16) (k v : FVec Ideal S4x2x8192x64 .bf16) (b : Fin 4) (g : Fin 2) (h : Fin 8) (t : Fin 8192) (d : Fin 64) :
    attention q k v (ix4 b ⟨g.val * 8 + h.val, by omega⟩ t d)
      = ∑ s : Fin 8192, Ideal.div (Softmax.weight (seen t) (fun s => score q k (ix5 b g h t s)) s)
            (∑ s : Fin 8192, Softmax.weight (seen t) (fun s => score q k (ix5 b g h t s)) s)
          * (if seen t s then 1 else 0) * v (ix4 b g s d) := by
  rw [attention, mix_at]
  simp only [prob_at, weight_at]

end Cert.WinRef

end
-- ==== Proof.WinFinite.lean ====
module

public import proofs.«01_k».proof.Proof.Gen.Pre_finite
public import proofs.«01_k».proof.Proof.WinRefAt
public import proofs.«01_k».proof.Proof.Words
public import Idealize.ShloMosaic.Lib.Pointwise
public import Idealize.ShloMosaic.Lib.WordCmp
public import Idealize.ShloMosaic.Lib.Decide

@[expose] public section

set_option maxRecDepth 16384

noncomputable section

open Idealize.ShloMosaic Idealize.ShloMosaic.TcCoe Idealize.SL.Sem

namespace Cert.WinFinite

open Cert.Pre_finite

/-- An extended real whose absolute value is below infinity is a real. -/
theorem real_of_abs (x : EReal) (h : max x (-x) < ⊤) : ∃ r : ℝ, x = r := by
  induction x with
  | bot => simp at h
  | top => simp at h
  | coe r => exact ⟨r, rfl⟩

/-- The precondition at an index: the query's and the key's entry are real. -/
theorem at_index (q : FVec Ideal S4x16x8192x64 .bf16) (k v : FVec Ideal S4x2x8192x64 .bf16)
    (h : fn (F := Ideal) q k v = fun _ => 1#1) (b : Fin 4) (g : Fin 2) (a : Fin 8) (t : Fin 8192) (e : Fin 64) :
    (∃ r : ℝ, q (ix4 b ⟨g.val * 8 + a.val, by omega⟩ t e) = r) ∧ ∃ r : ℝ, k (ix4 b g t e) = r := by
  have h1 := congrFun h (ix5 b g a t e)
  pointwise [fn] at h1
  rw [Words.posInf, IntOp.andi, Words.ofBool_and] at h1
  have h2 : (decide (FloatOps.absf (F := Ideal) (φ := .bf16) (q (ix4 b ⟨g.val * 8 + a.val, by omega⟩ t e)) < (⊤ : EReal))
      && decide (FloatOps.absf (F := Ideal) (φ := .bf16) (k (ix4 b g t e)) < (⊤ : EReal))) = true := by
    by_contra hc
    rw [Bool.not_eq_true] at hc
    erw [hc] at h1
    exact absurd h1 (by decide)
  rw [Bool.and_eq_true, decide_eq_true_eq, decide_eq_true_eq] at h2
  exact ⟨real_of_abs _ h2.1, real_of_abs _ h2.2⟩

/-- Under the precondition every score is a real. -/
theorem score_real (q : FVec Ideal S4x16x8192x64 .bf16) (k v : FVec Ideal S4x2x8192x64 .bf16)
    (h : fn (F := Ideal) q k v = fun _ => 1#1) (b : Fin 4) (g : Fin 2) (a : Fin 8) (t s : Fin 8192) :
    ∃ r : ℝ, WinRef.score q k (ix5 b g a t s) = r := by
  rw [WinRef.score_at]
  choose x hx using fun e => (at_index q k v h b g a t e).1
  choose y hy using fun e => (at_index q k v h b g a s e).2
  refine ⟨∑ e, x e * y e, ?_⟩
  rw [← Softmax.coe_sum]
  exact Finset.sum_congr rfl fun e _ => by rw [hx e, hy e, EReal.coe_mul]

end Cert.WinFinite

end
-- ==== Proof.WinValue.lean ====
module

public import proofs.«01_k».proof.Proof.WinKeys
public import proofs.«01_k».proof.Proof.WinFinite
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.WinIdeal.Attention

open Cert.WinIdeal Cert.WinIdeal.Gen Cert.WinIdeal.Keys

variable (m : (ℓ : Loc nD τ sig) → Buf (Elt Ideal) ℓ)

/-- The window of query `r` of block `i` holds, under the kernel's mask, the positions the reference's mask leaves. -/
theorem same (i : Fin 32) (r : Fin 256) :
    Softmax.Same (Block.seen i.val r) (WinRef.seen ⟨256 * i.val + r.val, by omega⟩)
      (fun j : Fin 768 => if h : 512 ≤ 256 * i.val + j.val ∧ 256 * i.val + j.val < 8704 then (⟨256 * i.val + j.val - 512, by omega⟩ : Fin 8192) else 0) where
  maps j hj := by
    obtain ⟨h1, h2, h3⟩ := hj
    have := i.isLt; have := r.isLt
    rw [dif_pos ⟨h3, by omega⟩]
    constructor <;> dsimp only <;> omega
  inj j j' hj hj' e := by
    obtain ⟨h1, h2, h3⟩ := hj
    obtain ⟨h1', h2', h3'⟩ := hj'
    have := i.isLt; have := r.isLt
    rw [dif_pos ⟨h3, by omega⟩, dif_pos ⟨h3', by omega⟩] at e
    have e' := congrArg Fin.val e
    dsimp only at e'
    exact Fin.ext (by omega)
  surj s hs := by
    obtain ⟨h1, h2⟩ := hs
    dsimp only at h1 h2
    have := i.isLt; have := r.isLt
    refine ⟨⟨s.val + 512 - 256 * i.val, by omega⟩, ⟨?_, ?_, ?_⟩, ?_⟩
    · dsimp only; omega
    · dsimp only; omega
    · dsimp only; omega
    · rw [dif_pos ⟨by dsimp only; omega, by dsimp only; omega⟩]
      exact Fin.ext (by dsimp only; omega)

/-- What the body stores at an index of its block is the reference's attention at the array index where the block puts it. -/
theorem point (c : Dev nD) (hpre : Cert.Pre_finite.fn (F := Ideal) (m ((c : Thread nD τ).loc main_arg0)) (m ((c : Thread nD τ).loc main_arg1))
      (m ((c : Thread nD τ).loc main_arg2)) = fun _ => 1#1)
    (t : Fin cfg0.N) (b : Fin 4) (g : Fin 2) (i : Fin 32) (hb : (grid0.coords t 0).val = b.val)
    (hg : (grid0.coords t 1).val = g.val) (hi : (grid0.coords t 2).val = i.val) (h : Fin 8) (r : Fin 256) (d : Fin 64) :
    k0_pay1 (F := Ideal) (k0_pay2 (iblk m c 4 t) (iblk m c 5 t) (iblk m c 6 t)) (k0_pay3 (iblk m c 1 t) (iblk m c 2 t) (iblk m c 3 t) (iblk m c 0 t))
      (k0_pay4 (grid0.coords t)) (Scalar.subi (Scalar.muli (BitVec.ofNat 32 (grid0.coords t 2).val) 256#32) 512#32)
      (iota .tc S256x768 32 [1] iota_S256x768_d1_w32) (ix4 0 h r d)
    = WinRef.attention (m ((c : Thread nD τ).loc main_arg0)) (m ((c : Thread nD τ).loc main_arg1)) (m ((c : Thread nD τ).loc main_arg2))
        (ix4 b (⟨g.val * 8 + h.val, by omega⟩ : Fin 16) (⟨256 * i.val + r.val, by omega⟩ : Fin 8192) d) := by
  refine (Block.stored (grid0.coords t) _ _ h r d).trans ?_
  rw [hi]
  refine Eq.trans ?_ (WinRef.attention_at _ _ _ b g h _ d).symm
  refine Softmax.row (same i r) _ _ _ _ (fun j hj => ?_) (fun j hj => ?_) (fun s _ => ?_) ?_
  · obtain ⟨h1, h2, h3⟩ := hj
    rw [dif_pos ⟨h3, by omega⟩]
    refine (Block.scores _ _ _ _ h r j).trans ?_
    refine Eq.trans ?_ (WinRef.score_at _ _ b g h _ _).symm
    refine Finset.sum_congr rfl fun e _ => Ideal.mul_congr (queries m c t b g i hb hg hi h r e) (catK m c t b g i hb hg hi j _ ?_ e)
    dsimp only; omega
  · obtain ⟨h1, h2, h3⟩ := hj
    rw [dif_pos ⟨h3, by omega⟩]
    refine (Block.values _ _ _ j d).trans (catV m c t b g i hb hg hi j _ ?_ d)
    dsimp only; omega
  · exact WinFinite.score_real _ _ _ hpre b g h _ s
  · exact ⟨⟨256 * i.val + r.val, by omega⟩, by constructor <;> dsimp only <;> omega⟩

/-- The result array after the run is the reference's attention of the argument arrays. -/
theorem final (c : Dev nD) (hpre : Cert.Pre_finite.fn (F := Ideal) (m ((c : Thread nD τ).loc main_arg0)) (m ((c : Thread nD τ).loc main_arg1))
      (m ((c : Thread nD τ).loc main_arg2)) = fun _ => 1#1) : (dats m 0 c).arrAt 7 cfg0.N
    = WinRef.attention (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]; frame_out
  idx_vars y
  obtain rfl : y0 = 0 := Subsingleton.elim _ _
  refine (point m c hpre t (grid0.coords t 0) (grid0.coords t 1) (grid0.coords t 2) rfl rfl rfl y1 y2 y3).trans ?_
  refine congrArg _ ?_
  blk_ext [idx t]

end Cert.WinIdeal.Attention

end
-- ==== Proof.ProjQ.lean ====
module

public import proofs.«01_k».proof.Proof.Gen.ProjQIdeal.Value
public import proofs.«01_k».proof.Proof.Gen.ProjQRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ProjQIdeal.Product

open Cert.ProjQIdeal Cert.ProjQIdeal.Gen

variable (m : (ℓ : Loc nD τ sig) → Buf (Elt Ideal) ℓ)

/-- The reference's result as a function of its two arguments: the rounded product. -/
def product (x : FVec Ideal S32768x1024 .bf16) (w : FVec Ideal S1024x1024 .f32) : FVec Ideal S32768x1024 .bf16 :=
  truncf .bf16 (Host.dotGeneral Cert.ProjQRefIdeal.dot_S32768x1024_S1024x1024_S32768x1024_1_0_0_1_n_n none
    (extf .f32 x Cert.ProjQRefIdeal.Gen.bitsLt_bf16_f32) w) Cert.ProjQRefIdeal.Gen.bitsLt_bf16_f32

/-- Each window's block index at a grid point. -/
theorem idx : ∀ t : Fin cfg0.N, win0_0.index t = ![t.val, 0] ∧ win0_1.index t = ![0, 0] ∧ win0_2.index t = ![t.val, 0] :=
  (by decide +kernel : ∀ t : Fin grid0.N, _)

/-- What the body stores at an index of its block is the product at the array index where the block puts it. -/
theorem point (c : Dev nD) (t : Fin cfg0.N) (y) : k0_pay1 (iblk m c 0 t) (iblk m c 1 t) y
    = product (m ((c : Thread nD τ).loc main_arg0)) (m ((c : Thread nD τ).loc main_arg1)) (((cfg0.win 2).blk t).view.emb y) := by
  pointwise [k0_pay1, product]
  blk_point [iblk, V, idx t]

/-- The result array after the run is the product of the argument arrays. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.ProjQIdeal.Product

end
-- ==== Proof.ProjKv.lean ====
module

public import proofs.«01_k».proof.Proof.Gen.ProjKvIdeal.Value
public import proofs.«01_k».proof.Proof.Gen.ProjKvRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ProjKvIdeal.Product

open Cert.ProjKvIdeal Cert.ProjKvIdeal.Gen

variable (m : (ℓ : Loc nD τ sig) → Buf (Elt Ideal) ℓ)

/-- The reference's result as a function of its two arguments: the rounded product. -/
def product (x : FVec Ideal S32768x1024 .bf16) (w : FVec Ideal S1024x768 .f32) : FVec Ideal S32768x768 .bf16 :=
  truncf .bf16 (Host.dotGeneral Cert.ProjKvRefIdeal.dot_S32768x1024_S1024x768_S32768x768_1_0_0_1_n_n none
    (extf .f32 x Cert.ProjKvRefIdeal.Gen.bitsLt_bf16_f32) w) Cert.ProjKvRefIdeal.Gen.bitsLt_bf16_f32

/-- Each window's block index at a grid point. -/
theorem idx : ∀ t : Fin cfg0.N, win0_0.index t = ![t.val, 0] ∧ win0_1.index t = ![0, 0] ∧ win0_2.index t = ![t.val, 0] :=
  (by decide +kernel : ∀ t : Fin grid0.N, _)

/-- What the body stores at an index of its block is the product at the array index where the block puts it. -/
theorem point (c : Dev nD) (t : Fin cfg0.N) (y) : k0_pay1 (iblk m c 0 t) (iblk m c 1 t) y
    = product (m ((c : Thread nD τ).loc main_arg0)) (m ((c : Thread nD τ).loc main_arg1)) (((cfg0.win 2).blk t).view.emb y) := by
  pointwise [k0_pay1, product]
  blk_point [iblk, V, idx t]

/-- The result array after the run is the product of the argument arrays. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.ProjKvIdeal.Product

end
-- ==== Proof.ProjXbc.lean ====
module

public import proofs.«01_k».proof.Proof.Gen.ProjXbcIdeal.Value
public import proofs.«01_k».proof.Proof.Gen.ProjXbcRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ProjXbcIdeal.Product

open Cert.ProjXbcIdeal Cert.ProjXbcIdeal.Gen

variable (m : (ℓ : Loc nD τ sig) → Buf (Elt Ideal) ℓ)

/-- The reference's result as a function of its two arguments: the rounded product. -/
def product (x : FVec Ideal S32768x1024 .bf16) (w : FVec Ideal S1024x1536 .f32) : FVec Ideal S32768x1536 .bf16 :=
  truncf .bf16 (Host.dotGeneral Cert.ProjXbcRefIdeal.dot_S32768x1024_S1024x1536_S32768x1536_1_0_0_1_n_n none
    (extf .f32 x Cert.ProjXbcRefIdeal.Gen.bitsLt_bf16_f32) w) Cert.ProjXbcRefIdeal.Gen.bitsLt_bf16_f32

/-- Each window's block index at a grid point. -/
theorem idx : ∀ t : Fin cfg0.N, win0_0.index t = ![t.val, 0] ∧ win0_1.index t = ![0, 0] ∧ win0_2.index t = ![t.val, 0] :=
  (by decide +kernel : ∀ t : Fin grid0.N, _)

/-- What the body stores at an index of its block is the product at the array index where the block puts it. -/
theorem point (c : Dev nD) (t : Fin cfg0.N) (y) : k0_pay1 (iblk m c 0 t) (iblk m c 1 t) y
    = product (m ((c : Thread nD τ).loc main_arg0)) (m ((c : Thread nD τ).loc main_arg1)) (((cfg0.win 2).blk t).view.emb y) := by
  pointwise [k0_pay1, product]
  blk_point [iblk, V, idx t]

/-- The result array after the run is the product of the argument arrays. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.ProjXbcIdeal.Product

end
-- ==== Proof.ProjMg.lean ====
module

public import proofs.«01_k».proof.Proof.Gen.ProjMgIdeal.Value
public import proofs.«01_k».proof.Proof.Gen.ProjMgRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ProjMgIdeal.Product

open Cert.ProjMgIdeal Cert.ProjMgIdeal.Gen

variable (m : (ℓ : Loc nD τ sig) → Buf (Elt Ideal) ℓ)

/-- The reference's result as a function of its two arguments: the rounded product. -/
def product (x : FVec Ideal S32768x1024 .bf16) (w : FVec Ideal S1024x3072 .f32) : FVec Ideal S32768x3072 .bf16 :=
  truncf .bf16 (Host.dotGeneral Cert.ProjMgRefIdeal.dot_S32768x1024_S1024x3072_S32768x3072_1_0_0_1_n_n none
    (extf .f32 x Cert.ProjMgRefIdeal.Gen.bitsLt_bf16_f32) w) Cert.ProjMgRefIdeal.Gen.bitsLt_bf16_f32

/-- Each window's block index at a grid point. -/
theorem idx : ∀ t : Fin cfg0.N, win0_0.index t = ![t.val % 64, 0] ∧ win0_1.index t = ![0, t.val / 64] ∧ win0_2.index t = ![t.val % 64, t.val / 64] :=
  (by decide +kernel : ∀ t : Fin grid0.N, _)

/-- What the body stores at an index of its block is the product at the array index where the block puts it. -/
theorem point (c : Dev nD) (t : Fin cfg0.N) (y) : k0_pay1 (iblk m c 0 t) (iblk m c 1 t) y
    = product (m ((c : Thread nD τ).loc main_arg0)) (m ((c : Thread nD τ).loc main_arg1)) (((cfg0.win 2).blk t).view.emb y) := by
  pointwise [k0_pay1, product]
  blk_point [iblk, V, idx t]

/-- The result array after the run is the product of the argument arrays. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.ProjMgIdeal.Product

end
-- ==== Proof.MergeBlock.lean ====
module

public import proofs.«01_k».proof.Proof.Gen.MergeIdeal.Value
public import Idealize.ShloMosaic.Lib.Pipeline.ValueKit
public import Idealize.ShloMosaic.Lib.Pointwise

@[expose] public section

set_option maxRecDepth 16384
noncomputable section

open Idealize.ShloMosaic Idealize.ShloMosaic.TcCoe Idealize.SL.Sem
open Idealize.ShloMosaic.Pipeline (Dat)

namespace Cert.MergeIdeal.Output

open Cert.MergeIdeal Cert.MergeIdeal.Gen

variable (m : (ℓ : Loc nD τ sig) → Buf (Elt Ideal) ℓ)

/-- The logistic function as the kernel writes it. -/
def gate (v : EReal) : EReal := Ideal.div 1 (1 + Ideal.exp (0 - v))

/-- Entry `d` of head `h` at row `r` of a block of tokens: the three attention outputs, each times the gate of its own column. -/
def mixed (g : FVec Ideal S256x128 .f32) (a b e : FVec Ideal S1x16x256x64 .bf16) (r : Fin 256) (h : Fin 16) (d : Fin 64) : EReal :=
  gate (g (ix2 r ⟨3 * h, by omega⟩)) * a (ix4 0 h r d) + gate (g (ix2 r ⟨3 * h + 1, by omega⟩)) * b (ix4 0 h r d)
    + gate (g (ix2 r ⟨3 * h + 2, by omega⟩)) * e (ix4 0 h r d)

/-- The mixed attention outputs of a block of tokens, the heads side by side: column `64·h + d` is entry `d` of head `h`. -/
def mix (g : FVec Ideal S256x128 .f32) (a b e : FVec Ideal S1x16x256x64 .bf16) : FVec Ideal S256x1024 .bf16 := fun i =>
  mixed g a b e (i 0) ⟨(i 1 : ℕ) / 64, by have := (i 1).isLt; dsimp at this ⊢; omega⟩ ⟨(i 1 : ℕ) % 64, by omega⟩

/-- The mixed outputs at an index given by its head and entry, the gates' columns given by their numbers. -/
theorem mix_at (g : FVec Ideal S256x128 .f32) (a b e : FVec Ideal S1x16x256x64 .bf16) (x : S256x1024.Idx) (r : Fin 256) (h : Fin 16)
    (d : Fin 64) (k₀ k₁ k₂ : Fin 128) (h0 : (x 0 : ℕ) = r) (h1 : (x 1 : ℕ) = 64 * (h : ℕ) + d) (hk₀ : (k₀ : ℕ) = 3 * (h : ℕ))
    (hk₁ : (k₁ : ℕ) = 3 * (h : ℕ) + 1) (hk₂ : (k₂ : ℕ) = 3 * (h : ℕ) + 2) :
    Ideal.div 1 (1 + Ideal.exp (0 - g (ix2 r k₀))) * a (ix4 0 h r d) + Ideal.div 1 (1 + Ideal.exp (0 - g (ix2 r k₁))) * b (ix4 0 h r d)
      + Ideal.div 1 (1 + Ideal.exp (0 - g (ix2 r k₂))) * e (ix4 0 h r d) = mix g a b e x := by
  have ek₀ : k₀ = ⟨3 * h, by omega⟩ := Fin.ext hk₀
  have ek₁ : k₁ = ⟨3 * h + 1, by omega⟩ := Fin.ext hk₁
  have ek₂ : k₂ = ⟨3 * h + 2, by omega⟩ := Fin.ext hk₂
  have e0 : x 0 = r := Fin.ext h0
  have eh : (⟨(x 1 : ℕ) / 64, by have := (x 1).isLt; dsimp at this ⊢; omega⟩ : Fin 16) = h := Fin.ext (by dsimp; omega)
  have ed : (⟨(x 1 : ℕ) % 64, by omega⟩ : Fin 64) = d := Fin.ext (by dsimp; omega)
  unfold mix
  rw [e0, eh, ed, ek₀, ek₁, ek₂]; rfl

set_option maxHeartbeats 4000000 in
/-- What the body stores at a grid point: the tokens of the block plus the gated sum of the three projected branches, taken
    through the output matrix. The scratch buffer, filled head by head, is read back as the mixed attention outputs. -/
theorem stored (c : Dev nD) (t : Fin cfg0.N) (y) : outsAt0 m c t y
    = k0_pay1 (F := Ideal) (iblk m c 7 t)
      (k0_pay39 (F := Ideal) (k0_pay37 (F := Ideal) (View.ld (iblk m c 6 t) (Rect.unit ![0, 0] ![256, 1024] inb_S256x3072_S256x1024_0_0)))
        (mix (iblk m c 3 t) (iblk m c 0 t) (iblk m c 1 t) (iblk m c 2 t))
        (k0_pay38 (F := Ideal) (View.ld (iblk m c 8 t) (Rect.unit ![0, 0, 0] ![1, 1024, 1024] inb_S3x1024x1024_S1x1024x1024_0_0_0)))
        (View.ld (iblk m c 6 t) (Rect.unit ![0, 1024] ![256, 1024] inb_S256x3072_S256x1024_0_1024)) (iblk m c 4 t)
        (View.ld (iblk m c 8 t) (Rect.unit ![1, 0, 0] ![1, 1024, 1024] inb_S3x1024x1024_S1x1024x1024_1_0_0))
        (View.ld (iblk m c 6 t) (Rect.unit ![0, 2048] ![256, 1024] inb_S256x3072_S256x1024_0_2048)) (iblk m c 5 t)
        (View.ld (iblk m c 8 t) (Rect.unit ![2, 0, 0] ![1, 1024, 1024] inb_S3x1024x1024_S1x1024x1024_2_0_0)))
      (iblk m c 9 t) y := by
  unfold outsAt0; frame_out
  generalize hz : View.readCov (Val := Elt Ideal) (View.whole cc0_scratch0) _ _ = z
  have hm : z = mix (iblk m c 3 t) (iblk m c 0 t) (iblk m c 1 t) (iblk m c 2 t) := by
    subst hz
    funext x
    rw [View.readCov_eq_canon']
    refine (congrArg (View.canon _) (a₂ := x) (funext fun a => Fin.ext ?_)).trans ?_
    · fin_cases a <;> simp
    canon_tiles x' h
    all_goals
      open_payloads
      pointwise
      exact mix_at _ _ _ _ x (x' 0) _ (x' 1) _ _ _ h0 (by first | exact h1 | simpa using h1) rfl rfl rfl
  rw [hm]
  rfl

end Cert.MergeIdeal.Output
end
-- ==== Proof.MergeRef.lean ====
module

public import proofs.«01_k».proof.Proof.Gen.MergeRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.MergeRefIdeal.Output

open Cert.MergeRefIdeal Cert.MergeRefIdeal.Gen

/-- The gates of the attention heads: the logistic function of the first 48 columns, as 16 heads of three gates. -/
def headGates (g : FVec Ideal S32768x128 .f32) : FVec Ideal S4x8192x16x3 .f32 :=
  shapeCast _ (Host.divf (broadcastInDim S32768x48 ![] bcast_S_S32768x48 (constant S_ .f32 0x3F800000#32))
    (addf (broadcastInDim S32768x48 ![] bcast_S_S32768x48 (constant S_ .f32 0x3F800000#32))
      (Host.exp (Host.negf (extractStridedSlice S32768x48 ![0, 0] g slices_S32768x128_S32768x48_0_0))))) shapeCasts_S32768x48_S4x8192x16x3

/-- The gates of the three branches: the logistic function of the gate projection, as three rows per token. -/
def mergeGates (g : FVec Ideal S32768x3072 .bf16) : FVec Ideal S32768x3x1024 .f32 :=
  shapeCast _ (Host.divf (broadcastInDim S32768x3072 ![] bcast_S_S32768x3072 (constant S_ .f32 0x3F800000#32))
    (addf (broadcastInDim S32768x3072 ![] bcast_S_S32768x3072 (constant S_ .f32 0x3F800000#32))
      (Host.exp (Host.negf (extf .f32 g bitsLt_bf16_f32))))) shapeCasts_S32768x3072_S32768x3x1024

/-- The three attention outputs, each times its gate, summed, the heads of a token side by side. -/
def heads (a b e : FVec Ideal S4x16x8192x64 .bf16) (g : FVec Ideal S32768x128 .f32) : FVec Ideal S32768x1024 .f32 :=
  shapeCast _ (addf (addf
    (mulf (broadcastInDim S4x8192x16x64 ![0, 1, 2, 3] bcast_S4x8192x16x1_S4x8192x16x64_0_1_2_3 (extractStridedSlice S4x8192x16x1 ![0, 0, 0, 0] (headGates g) slices_S4x8192x16x3_S4x8192x16x1_0_0_0_0))
      (transpose S4x8192x16x64 [0, 2, 1, 3] (extf .f32 a bitsLt_bf16_f32) transposes_S4x16x8192x64_S4x8192x16x64_0_2_1_3))
    (mulf (broadcastInDim S4x8192x16x64 ![0, 1, 2, 3] bcast_S4x8192x16x1_S4x8192x16x64_0_1_2_3 (extractStridedSlice S4x8192x16x1 ![0, 0, 0, 1] (headGates g) slices_S4x8192x16x3_S4x8192x16x1_0_0_0_1))
      (transpose S4x8192x16x64 [0, 2, 1, 3] (extf .f32 b bitsLt_bf16_f32) transposes_S4x16x8192x64_S4x8192x16x64_0_2_1_3)))
    (mulf (broadcastInDim S4x8192x16x64 ![0, 1, 2, 3] bcast_S4x8192x16x1_S4x8192x16x64_0_1_2_3 (extractStridedSlice S4x8192x16x1 ![0, 0, 0, 2] (headGates g) slices_S4x8192x16x3_S4x8192x16x1_0_0_0_2))
      (transpose S4x8192x16x64 [0, 2, 1, 3] (extf .f32 e bitsLt_bf16_f32) transposes_S4x16x8192x64_S4x8192x16x64_0_2_1_3))) shapeCasts_S4x8192x16x64_S32768x1024

/-- The gated sum of the three branches' products with their weights. -/
def branches (y₀ y₁ y₂ : FVec Ideal S32768x1024 .f32) (g : FVec Ideal S32768x3072 .bf16) (w : FVec Ideal S3x1024x1024 .f32) :
    FVec Ideal S32768x1024 .f32 :=
  addf (addf
    (mulf (shapeCast _ (extractStridedSlice S32768x1x1024 ![0, 0, 0] (mergeGates g) slices_S32768x3x1024_S32768x1x1024_0_0_0) shapeCasts_S32768x1x1024_S32768x1024)
      (Host.dotGeneral dot_S32768x1024_S1024x1024_S32768x1024_1_0_0_1_n_n none y₀ (shapeCast _ (extractStridedSlice S1x1024x1024 ![0, 0, 0] w slices_S3x1024x1024_S1x1024x1024_0_0_0) shapeCasts_S1x1024x1024_S1024x1024)))
    (mulf (shapeCast _ (extractStridedSlice S32768x1x1024 ![0, 1, 0] (mergeGates g) slices_S32768x3x1024_S32768x1x1024_0_1_0) shapeCasts_S32768x1x1024_S32768x1024)
      (Host.dotGeneral dot_S32768x1024_S1024x1024_S32768x1024_1_0_0_1_n_n none y₁ (shapeCast _ (extractStridedSlice S1x1024x1024 ![1, 0, 0] w slices_S3x1024x1024_S1x1024x1024_1_0_0) shapeCasts_S1x1024x1024_S1024x1024))))
    (mulf (shapeCast _ (extractStridedSlice S32768x1x1024 ![0, 2, 0] (mergeGates g) slices_S32768x3x1024_S32768x1x1024_0_2_0) shapeCasts_S32768x1x1024_S32768x1024)
      (Host.dotGeneral dot_S32768x1024_S1024x1024_S32768x1024_1_0_0_1_n_n none y₂ (shapeCast _ (extractStridedSlice S1x1024x1024 ![2, 0, 0] w slices_S3x1024x1024_S1x1024x1024_2_0_0) shapeCasts_S1x1024x1024_S1024x1024)))

/-- The tokens plus the merged branches taken through the output matrix. -/
def output (x y : FVec Ideal S32768x1024 .f32) (w : FVec Ideal S1024x1024 .f32) : FVec Ideal S32768x1024 .f32 :=
  addf x (Host.dotGeneral dot_S32768x1024_S1024x1024_S32768x1024_1_0_0_1_n_n none y w)

/-- The reference's result is made of these pieces. -/
theorem result_eq (m : (ℓ : Loc nD τ sig) → Buf (Elt Ideal) ℓ) (c : Dev nD) : Cert.MergeRefIdeal.Value.res_out0 m c
    = output (m ((c : Thread nD τ).loc main_arg7))
        (branches (heads (m ((c : Thread nD τ).loc main_arg0)) (m ((c : Thread nD τ).loc main_arg1)) (m ((c : Thread nD τ).loc main_arg2))
            (m ((c : Thread nD τ).loc main_arg3)))
          (extf .f32 (m ((c : Thread nD τ).loc main_arg4)) bitsLt_bf16_f32) (extf .f32 (m ((c : Thread nD τ).loc main_arg5)) bitsLt_bf16_f32)
          (m ((c : Thread nD τ).loc main_arg6)) (m ((c : Thread nD τ).loc main_arg8)))
        (m ((c : Thread nD τ).loc main_arg9)) := rfl

/-- The logistic function as the reference writes it. -/
def gateValue (v : EReal) : EReal := Ideal.div 1 (1 + Ideal.exp (-v))

/-- A head's gate is the logistic function of its column. -/
theorem headGates_at (g : FVec Ideal S32768x128 .f32) (b : Fin 4) (n : Fin 8192) (h : Fin 16) (i : Fin 3) :
    headGates g (ix4 b n h i) = gateValue (g (ix2 ⟨b * 8192 + n, by omega⟩ ⟨h * 3 + i, by omega⟩)) := by
  pointwise [headGates, gateValue]

/-- A branch's gate is the logistic function of its column. -/
theorem mergeGates_at (g : FVec Ideal S32768x3072 .bf16) (r : Fin 32768) (i : Fin 3) (k : Fin 1024) :
    mergeGates g (ix3 r i k) = gateValue (g (ix2 r ⟨i * 1024 + k, by omega⟩)) := by
  pointwise [mergeGates, gateValue]

/-- The mixed attention outputs at a token and a head's entry. -/
theorem heads_at (a b e : FVec Ideal S4x16x8192x64 .bf16) (g : FVec Ideal S32768x128 .f32) (q : Fin 4) (n : Fin 8192) (h : Fin 16) (d : Fin 64) :
    heads a b e g (ix2 ⟨8192 * q + n, by omega⟩ ⟨64 * h + d, by omega⟩)
    = headGates g (ix4 q n h 0) * a (ix4 q h n d) + headGates g (ix4 q n h 1) * b (ix4 q h n d) + headGates g (ix4 q n h 2) * e (ix4 q h n d) := by
  pointwise [heads]
  blk_ext

/-- The gated sum of the branches at an index. -/
theorem branches_at (y₀ y₁ y₂ : FVec Ideal S32768x1024 .f32) (g : FVec Ideal S32768x3072 .bf16) (w : FVec Ideal S3x1024x1024 .f32) (r : Fin 32768) (k : Fin 1024) :
    branches y₀ y₁ y₂ g w (ix2 r k)
    = mergeGates g (ix3 r 0 k) * (∑ j, y₀ (ix2 r j) * w (ix3 0 j k)) + mergeGates g (ix3 r 1 k) * (∑ j, y₁ (ix2 r j) * w (ix3 1 j k))
      + mergeGates g (ix3 r 2 k) * (∑ j, y₂ (ix2 r j) * w (ix3 2 j k)) := by
  pointwise [branches]
  blk_ext

/-- The result at an index. -/
theorem output_at (x y : FVec Ideal S32768x1024 .f32) (w : FVec Ideal S1024x1024 .f32) (r : Fin 32768) (k : Fin 1024) :
    output x y w (ix2 r k) = x (ix2 r k) + ∑ j, y (ix2 r j) * w (ix2 j k) := by
  pointwise [output]

end Cert.MergeRefIdeal.Output

end
-- ==== Proof.MergeValue.lean ====
module

public import proofs.«01_k».proof.Proof.MergeBlock
public import proofs.«01_k».proof.Proof.MergeRef

@[expose] public section

set_option maxRecDepth 16384

noncomputable section

open Idealize.ShloMosaic Idealize.ShloMosaic.TcCoe Idealize.SL.Sem
open Idealize.ShloMosaic.Pipeline (Dat)

namespace Cert.MergeIdeal.Output

open Cert.MergeIdeal Cert.MergeIdeal.Gen
open Cert.MergeRefIdeal.Output (headGates mergeGates heads branches output gateValue headGates_at mergeGates_at heads_at branches_at output_at)

variable (m : (ℓ : Loc nD τ sig) → Buf (Elt Ideal) ℓ)

/-- Each window's block index at a grid point. -/
theorem idx : ∀ t : Fin cfg0.N, win0_0.index t = ![t.val / 32, 0, t.val % 32, 0] ∧ win0_1.index t = ![t.val / 32, 0, t.val % 32, 0]
    ∧ win0_2.index t = ![t.val / 32, 0, t.val % 32, 0] ∧ win0_3.index t = ![t.val, 0] ∧ win0_4.index t = ![t.val, 0]
    ∧ win0_5.index t = ![t.val, 0] ∧ win0_6.index t = ![t.val, 0] ∧ win0_7.index t = ![t.val, 0] ∧ win0_8.index t = ![0, 0, 0]
    ∧ win0_9.index t = ![0, 0] ∧ win0_10.index t = ![t.val, 0] :=
  (by decide +kernel : ∀ t : Fin grid0.N, _)

/-- A grid point's number is below 128. -/
theorem lt (t : Fin cfg0.N) : t.val < 128 := lt_of_lt_of_eq t.isLt (by decide +kernel)

/-- The two ways of writing the logistic function agree. -/
theorem gate_eq (v : EReal) : gate v = gateValue v := by
  unfold gate gateValue; rw [zero_sub]

/-- The branch weights as the call finds them are the argument. -/
theorem entry_w (c : Dev nD) : V m c main_v0 = m ((c : Thread nD τ).loc main_arg8) := by
  unfold V; simp only [List.flatten_cons, List.flatten_nil, hostOps0, List.cons_append, List.nil_append]; after_results; rfl

/-- The output weights as the call finds them are the argument. -/
theorem entry_o (c : Dev nD) : V m c main_v1 = m ((c : Thread nD τ).loc main_arg9) := by
  unfold V; simp only [List.flatten_cons, List.flatten_nil, hostOps0, List.cons_append, List.nil_append]; after_results; rfl

/-- The head gates' block at a row. -/
theorem block_g (c : Dev nD) (t : Fin cfg0.N) (r : Fin 256) (k : Fin 128) : iblk m c 3 t (ix2 r k)
    = m ((c : Thread nD τ).loc main_arg3) (ix2 ⟨256 * t.val + r, by have := lt t; omega⟩ k) := by
  blk_ext [iblk, V, idx t]

/-- The first attention output's block at a head, row and entry. -/
theorem block_0 (c : Dev nD) (t : Fin cfg0.N) (h : Fin 16) (r : Fin 256) (d : Fin 64) : iblk m c 0 t (ix4 0 h r d)
    = m ((c : Thread nD τ).loc main_arg0) (ix4 ⟨t.val / 32, by have := lt t; omega⟩ h ⟨256 * (t.val % 32) + r, by omega⟩ d) := by
  blk_ext [iblk, V, idx t]

/-- The second attention output's block at a head, row and entry. -/
theorem block_1 (c : Dev nD) (t : Fin cfg0.N) (h : Fin 16) (r : Fin 256) (d : Fin 64) : iblk m c 1 t (ix4 0 h r d)
    = m ((c : Thread nD τ).loc main_arg1) (ix4 ⟨t.val / 32, by have := lt t; omega⟩ h ⟨256 * (t.val % 32) + r, by omega⟩ d) := by
  blk_ext [iblk, V, idx t]

/-- The third attention output's block at a head, row and entry. -/
theorem block_2 (c : Dev nD) (t : Fin cfg0.N) (h : Fin 16) (r : Fin 256) (d : Fin 64) : iblk m c 2 t (ix4 0 h r d)
    = m ((c : Thread nD τ).loc main_arg2) (ix4 ⟨t.val / 32, by have := lt t; omega⟩ h ⟨256 * (t.val % 32) + r, by omega⟩ d) := by
  blk_ext [iblk, V, idx t]

/-- The second branch's block at a row. -/
theorem block_4 (c : Dev nD) (t : Fin cfg0.N) (r : Fin 256) (k : Fin 1024) : iblk m c 4 t (ix2 r k)
    = m ((c : Thread nD τ).loc main_arg4) (ix2 ⟨256 * t.val + r, by have := lt t; omega⟩ k) := by
  blk_ext [iblk, V, idx t]

/-- The third branch's block at a row. -/
theorem block_5 (c : Dev nD) (t : Fin cfg0.N) (r : Fin 256) (k : Fin 1024) : iblk m c 5 t (ix2 r k)
    = m ((c : Thread nD τ).loc main_arg5) (ix2 ⟨256 * t.val + r, by have := lt t; omega⟩ k) := by
  blk_ext [iblk, V, idx t]

/-- The branch gates' block at a row. -/
theorem block_6 (c : Dev nD) (t : Fin cfg0.N) (r : Fin 256) (k : Fin 3072) : iblk m c 6 t (ix2 r k)
    = m ((c : Thread nD τ).loc main_arg6) (ix2 ⟨256 * t.val + r, by have := lt t; omega⟩ k) := by
  blk_ext [iblk, V, idx t]

/-- The tokens' block at a row. -/
theorem block_7 (c : Dev nD) (t : Fin cfg0.N) (r : Fin 256) (k : Fin 1024) : iblk m c 7 t (ix2 r k)
    = m ((c : Thread nD τ).loc main_arg7) (ix2 ⟨256 * t.val + r, by have := lt t; omega⟩ k) := by
  blk_ext [iblk, V, idx t]

/-- The branch weights' block is the whole argument. -/
theorem block_8 (c : Dev nD) (t : Fin cfg0.N) (i : Fin 3) (j k : Fin 1024) : iblk m c 8 t (ix3 i j k)
    = m ((c : Thread nD τ).loc main_arg8) (ix3 i j k) := by
  rw [← entry_w m c]; blk_ext [iblk, idx t]

/-- The output weights' block is the whole argument. -/
theorem block_9 (c : Dev nD) (t : Fin cfg0.N) (j k : Fin 1024) : iblk m c 9 t (ix2 j k)
    = m ((c : Thread nD τ).loc main_arg9) (ix2 j k) := by
  rw [← entry_o m c]; blk_ext [iblk, idx t]

/-- The mixed attention outputs of a block are the reference's at the block's rows. -/
theorem mix_eq (c : Dev nD) (t : Fin cfg0.N) (r : Fin 256) (j : Fin 1024) :
    mix (iblk m c 3 t) (iblk m c 0 t) (iblk m c 1 t) (iblk m c 2 t) (ix2 r j)
    = heads (m ((c : Thread nD τ).loc main_arg0)) (m ((c : Thread nD τ).loc main_arg1)) (m ((c : Thread nD τ).loc main_arg2))
        (m ((c : Thread nD τ).loc main_arg3)) (ix2 ⟨256 * t.val + r, by have := lt t; omega⟩ j) := by
  have ht := lt t
  have er : (⟨256 * t.val + r, by omega⟩ : Fin 32768)
      = ⟨8192 * (⟨t.val / 32, by omega⟩ : Fin 4).val + (⟨256 * (t.val % 32) + r, by omega⟩ : Fin 8192).val, by dsimp; omega⟩ := Fin.ext (by dsimp; omega)
  have ej : j = ⟨64 * (⟨j.val / 64, by omega⟩ : Fin 16).val + (⟨j.val % 64, by omega⟩ : Fin 64).val, by dsimp; omega⟩ := Fin.ext (by dsimp; omega)
  refine Eq.trans ?_ (congrArg₂ (fun a b => heads _ _ _ _ (ix2 a b)) er ej).symm
  rw [heads_at, headGates_at, headGates_at, headGates_at]
  refine Eq.trans (b := mixed (iblk m c 3 t) (iblk m c 0 t) (iblk m c 1 t) (iblk m c 2 t) r ⟨j.val / 64, by omega⟩ ⟨j.val % 64, by omega⟩) rfl ?_
  unfold mixed
  rw [gate_eq, gate_eq, gate_eq, block_g, block_g, block_g, block_0, block_1, block_2]
  refine congrArg₂ (· + ·) (congrArg₂ (· + ·) (congrArg (gateValue · * _) ?_) (congrArg (gateValue · * _) ?_)) (congrArg (gateValue · * _) ?_) <;>
    refine congrArg₂ (fun a b => m ((c : Thread nD τ).loc main_arg3) (ix2 a b)) (Fin.ext ?_) (Fin.ext ?_) <;> dsimp <;> omega

/-- The merged branches of a block at an index, from blocks of any contents. -/
theorem merged_at (z : Vec Ideal S256x3072 .bf16) (y₀ : FVec Ideal S256x1024 .bf16) (y₁ y₂ : Vec Ideal S256x1024 .bf16)
    (w : Vec Ideal S3x1024x1024 .bf16) (r : Fin 256) (k : Fin 1024) :
    k0_pay39 (F := Ideal) (k0_pay37 (F := Ideal) (View.ld z (Rect.unit ![0, 0] ![256, 1024] inb_S256x3072_S256x1024_0_0)))
        y₀ (k0_pay38 (F := Ideal) (View.ld w (Rect.unit ![0, 0, 0] ![1, 1024, 1024] inb_S3x1024x1024_S1x1024x1024_0_0_0)))
        (View.ld z (Rect.unit ![0, 1024] ![256, 1024] inb_S256x3072_S256x1024_0_1024)) y₁
        (View.ld w (Rect.unit ![1, 0, 0] ![1, 1024, 1024] inb_S3x1024x1024_S1x1024x1024_1_0_0))
        (View.ld z (Rect.unit ![0, 2048] ![256, 1024] inb_S256x3072_S256x1024_0_2048)) y₂
        (View.ld w (Rect.unit ![2, 0, 0] ![1, 1024, 1024] inb_S3x1024x1024_S1x1024x1024_2_0_0)) (ix2 r k)
    = gate (z (ix2 r ⟨k, by omega⟩)) * (∑ j : Fin 1024, y₀ (ix2 r j) * w (ix3 0 j k))
      + gate (z (ix2 r ⟨1024 + k, by omega⟩)) * (∑ j : Fin 1024, y₁ (ix2 r j) * w (ix3 1 j k))
      + gate (z (ix2 r ⟨2048 + k, by omega⟩)) * (∑ j : Fin 1024, y₂ (ix2 r j) * w (ix3 2 j k)) := by
  pointwise [k0_pay39, k0_pay37, k0_pay38, gate]

/-- The block's tokens plus the merged branches through the output weights, at an index. -/
theorem out_at (x : Vec Ideal S256x1024 .f32) (y : FVec Ideal S256x1024 .bf16) (w : Vec Ideal S1024x1024 .bf16) (r : Fin 256) (k : Fin 1024) :
    k0_pay1 (F := Ideal) x y w (ix2 r k) = x (ix2 r k) + ∑ j : Fin 1024, y (ix2 r j) * w (ix2 j k) := by
  pointwise [k0_pay1]

/-- What a grid point stores at row `r` and column `k` of its block is the reference's result at the block's row. -/
theorem point (c : Dev nD) (t : Fin cfg0.N) (r : Fin 256) (k : Fin 1024) : outsAt0 m c t (ix2 r k)
    = output (m ((c : Thread nD τ).loc main_arg7))
        (branches (heads (m ((c : Thread nD τ).loc main_arg0)) (m ((c : Thread nD τ).loc main_arg1)) (m ((c : Thread nD τ).loc main_arg2))
            (m ((c : Thread nD τ).loc main_arg3)))
          (m ((c : Thread nD τ).loc main_arg4)) (m ((c : Thread nD τ).loc main_arg5))
          (m ((c : Thread nD τ).loc main_arg6)) (m ((c : Thread nD τ).loc main_arg8)))
        (m ((c : Thread nD τ).loc main_arg9)) (ix2 ⟨256 * t.val + r, by have := lt t; omega⟩ k) := by
  rw [stored, out_at, output_at, block_7]
  refine congrArg₂ (fun a b : EReal => a + b) rfl (Fin.sum_fin_congr fun j => ?_)
  refine congrArg₂ (fun a b : EReal => a * b) ?_ (block_9 m c t j k)
  refine (merged_at (iblk m c 6 t) _ _ _ (iblk m c 8 t) r j).trans ?_
  rw [branches_at, mergeGates_at, mergeGates_at, mergeGates_at, gate_eq, gate_eq, gate_eq, block_6, block_6, block_6]
  simp only [mix_eq, block_4, block_5, block_8]
  have e : (⟨j.val, by omega⟩ : Fin 3072) = ⟨(0 : Fin 3).val * 1024 + j.val, by dsimp; omega⟩ := Fin.ext (by simp)
  rw [e]
  rfl

/-- An index of a grid point's block is at its row of the result array. -/
theorem emb_eq (t : Fin cfg0.N) (r : Fin 256) (k : Fin 1024) : ((cfg0.win 10).blk t).view.emb (ix2 r k) = ix2 ⟨256 * t.val + r, by have := lt t; omega⟩ k := by
  blk_ext [idx t]

/-- What a grid point stores at an index of its block is the reference's result where the block puts it. -/
theorem point_emb (c : Dev nD) (t : Fin cfg0.N) (y : S256x1024.Idx) : outsAt0 m c t y
    = output (m ((c : Thread nD τ).loc main_arg7))
        (branches (heads (m ((c : Thread nD τ).loc main_arg0)) (m ((c : Thread nD τ).loc main_arg1)) (m ((c : Thread nD τ).loc main_arg2))
            (m ((c : Thread nD τ).loc main_arg3)))
          (m ((c : Thread nD τ).loc main_arg4)) (m ((c : Thread nD τ).loc main_arg5))
          (m ((c : Thread nD τ).loc main_arg6)) (m ((c : Thread nD τ).loc main_arg8)))
        (m ((c : Thread nD τ).loc main_arg9)) (((cfg0.win 10).blk t).view.emb y) := by
  obtain ⟨r, k, rfl⟩ : ∃ (r : Fin 256) (k : Fin 1024), y = ix2 r k := ⟨y 0, y 1, funext fun a => by fin_cases a <;> rfl⟩
  rw [emb_eq t r k]
  exact point m c t r k

/-- The result array after the run is the reference's result. -/
theorem final (c : Dev nD) : (dats m 0 c).arrAt 10 cfg0.N
    = output (m ((c : Thread nD τ).loc main_arg7))
        (branches (heads (m ((c : Thread nD τ).loc main_arg0)) (m ((c : Thread nD τ).loc main_arg1)) (m ((c : Thread nD τ).loc main_arg2))
            (m ((c : Thread nD τ).loc main_arg3)))
          (m ((c : Thread nD τ).loc main_arg4)) (m ((c : Thread nD τ).loc main_arg5))
          (m ((c : Thread nD τ).loc main_arg6)) (m ((c : Thread nD τ).loc main_arg8)))
        (m ((c : Thread nD τ).loc main_arg9)) := by
  refine (dats m 0 c).arrAt_eq_of_covers 10 _ (by decide +kernel) fun t _ y => ?_
  blk_simp
  rw [after0_10]
  exact point_emb m c t y

end Cert.MergeIdeal.Output

end
-- ==== Proof.CmpBlock.lean ====
module

public import proofs.«01_k».proof.Proof.Gen.CmpIdeal.Skeleton
public import proofs.«01_k».proof.Proof.Softmax
public import proofs.«01_k».proof.Proof.Words
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.CmpIdeal.Block

open Cert.CmpIdeal Cert.CmpIdeal.Gen

/-- Whether query `r` of block `i` looks at compressed key `j`: the last position the key stands for is not after the query, and the
    key is not the last row, which is padding. -/
def seen (i : ℕ) (r : Fin 128) (j : Fin 512) : Prop := 16 * j.val + 31 ≤ 128 * i + r.val ∧ j.val < 511

instance (i : ℕ) (r : Fin 128) : DecidablePred (seen i r) := fun j => by unfold seen; infer_instance

/-- The last position a compressed key stands for, as a word. -/
theorem last (j : ℕ) (hj : j < 512) : (16#32 * BitVec.ofNat 32 j + 32#32 - 1#32).toInt = 16 * (j : ℤ) + 31 := by
  simp only [BitVec.toInt_add, BitVec.toInt_sub, BitVec.toInt_mul, Words.toInt_small j (by omega), Words.toInt_small 16 (by omega),
    Words.toInt_small 32 (by omega), Words.toInt_small 1 (by omega), Int.bmod_def]
  omega

/-- Position of query `r` of block `i`, as a word. -/
theorem pos (i r : ℕ) (hi : i < 64) (hr : r < 128) :
    (BitVec.ofNat 32 i * 128#32 + BitVec.ofNat 32 r).toInt = 128 * (i : ℤ) + r := by
  simp only [BitVec.toInt_add, BitVec.toInt_mul, Words.toInt_small i (by omega), Words.toInt_small r (by omega),
    Words.toInt_small 128 (by omega), Int.bmod_def]
  omega

/-- The body's two comparisons of words. -/
theorem mask (i r j : ℕ) (hi : i < 64) (hr : r < 128) (hj : j < 512) :
    IntOp.andi (IntOp.cmpi .sle (IntOp.subi (IntOp.addi (IntOp.muli 16#32 (BitVec.ofNat 32 j)) 32#32) 1#32)
        (IntOp.addi (Scalar.muli (BitVec.ofNat 32 i) 128#32) (BitVec.ofNat 32 r)))
      (IntOp.cmpi .slt (BitVec.ofNat 32 j) 511#32) = BitVec.ofBool (decide (16 * j + 31 ≤ 128 * i + r ∧ j < 511)) := by
  have h1 := last j hj
  have h2 := pos i r hi hr
  have h3 := Words.toInt_small j (by omega)
  have h4 := Words.toInt_small 511 (by omega)
  simp only [IntOp.andi, IntOp.cmpi, IntOp.addi, IntOp.subi, Scalar.muli, IntOp.muli, BitVec.sle_eq_decide, BitVec.slt_eq_decide, h1, h2, h3, h4,
    Words.ofBool_and]
  congr 1
  simp [← Bool.decide_and]
  omega

/-- The constant that masks a score is minus infinity. -/
theorem mask_const : (Named.named (F := Ideal) κ "mask" (φ := .f32) 4048155338#32 : EReal) = ⊥ :=
  IdealRules.named_const.ideal_named_scalar κ "mask" _ ⊥ rfl

/-- A weight the body computes: the exponential of the score less the largest one, 0 for a key the query does not look at. -/
theorem weights (i : grid0.Coords) (q : FVec Ideal S1x8x128x64 .bf16) (k : FVec Ideal S1x1x512x64 .bf16) (h : Fin 8) (r : Fin 128) (j : Fin 512) :
    k0_pay2 (F := Ideal) i q k (ix3 h r j)
      = if seen (i 2).val r j then Softmax.weight (seen (i 2).val r) (fun j => ∑ e : Fin 64, q (ix4 0 h r e) * k (ix4 0 0 j e)) j else 0 := by
  have hm := fun x : Fin 512 => mask (i 2).val r.val x.val (i 2).isLt r.isLt x.isLt
  pointwise [k0_pay2]
  simp only [hm, mask_const, Words.negInf, WordCmp.select_decide]
  rfl

/-- The sum of a query's weights. -/
theorem total (i : grid0.Coords) (q : FVec Ideal S1x8x128x64 .bf16) (k : FVec Ideal S1x1x512x64 .bf16) (h : Fin 8) (r : Fin 128) :
    k0_pay3 (F := Ideal) i q k (ix3 h r 0) = ∑ j : Fin 512, k0_pay2 (F := Ideal) i q k (ix3 h r j) := by
  pointwise [k0_pay3]

/-- A weight scaled by the reciprocal of the sum where that is positive, by 0 where it is not. -/
theorem scaled (w : FVec Ideal S8x128x512 .f32) (l : FVec Ideal S8x128x1 .f32) (h : Fin 8) (r : Fin 128) (j : Fin 512) :
    k0_pay4 (F := Ideal) w l (ix3 h r j) = w (ix3 h r j) * (if 0 < l (ix3 h r 0) then Ideal.div 1 (l (ix3 h r 0)) else 0) := by
  pointwise [k0_pay4]

/-- What the body stores: the values summed with the scaled weights. -/
theorem stored (w : FVec Ideal S8x128x512 .f32) (l : FVec Ideal S8x128x1 .f32) (v : FVec Ideal S1x1x512x64 .bf16) (h : Fin 8) (r : Fin 128) (d : Fin 64) :
    k0_pay5 (F := Ideal) w l v (ix4 0 h r d) = ∑ j : Fin 512, k0_pay4 (F := Ideal) w l (ix3 h r j) * v (ix4 0 0 j d) := by
  pointwise [k0_pay5]

end Cert.CmpIdeal.Block

end
-- ==== Proof.CmpRef.lean ====
module

public import proofs.«01_k».proof.Proof.Gen.CmpRefIdeal.Run
public import proofs.«01_k».proof.Proof.Softmax
public import proofs.«01_k».proof.Proof.Words
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.CmpRef

open Cert.CmpRefIdeal Cert.CmpRefIdeal.Gen

/-- Which compressed keys a query position looks at, as the reference computes it. -/
def mask : IVec S8192x511 1 :=
  cmpi .sle (broadcastInDim S8192x511 ![0, 1] bcast_S1x511_S8192x511_0_1 (broadcastInDim S1x511 ![1] bcast_S511_S1x511_1
      (subi (addi (muli (broadcastInDim S511 ![] bcast_S_S511 (constantI S_ 32 16#32)) (iotaInDim S511 32 0))
        (broadcastInDim S511 ![] bcast_S_S511 (constantI S_ 32 32#32))) (broadcastInDim S511 ![] bcast_S_S511 (constantI S_ 32 1#32)))))
    (broadcastInDim S8192x511 ![0, 1] bcast_S8192x1_S8192x511_0_1 (broadcastInDim S8192x1 ![0] bcast_S8192_S8192x1_0 (iotaInDim S8192 32 0)))

/-- The scores of every query against every compressed key, the last row of padding left out. -/
def score (q : FVec Ideal S4x16x8192x64 .bf16) (k : FVec Ideal S4x2x512x64 .bf16) : FVec Ideal S4x2x8x8192x511 .f32 :=
  Host.dotGeneral dot_S4x2x8x8192x64_S4x2x511x64_S4x2x8x8192x511_4_3_23_2_01_01 none
    (shapeCast _ (extf .f32 q bitsLt_bf16_f32) shapeCasts_S4x16x8192x64_S4x2x8x8192x64) (extf .f32 (extractStridedSlice S4x2x511x64 ![0, 0, 0, 0] k slices_S4x2x512x64_S4x2x511x64_0_0_0_0) bitsLt_bf16_f32)

/-- The scores with −∞ at the keys the query does not look at. -/
def masked (s : FVec Ideal S4x2x8x8192x511 .f32) : FVec Ideal S4x2x8x8192x511 .f32 :=
  select (broadcastInDim S4x2x8x8192x511 ![3, 4] bcast_S8192x511_S4x2x8x8192x511_3_4 mask) s
    (broadcastInDim S4x2x8x8192x511 ![] bcast_S_S4x2x8x8192x511 (id (constant S_ .f32 0xFF800000#32)))

/-- The largest masked score of each query. -/
def top (y : FVec Ideal S4x2x8x8192x511 .f32) : FVec Ideal S4x2x8x8192 .f32 :=
  maximumf (broadcastInDim S4x2x8x8192 ![] bcast_S_S4x2x8x8192 (constant S_ .f32 0xFF800000#32))
    (Host.reduce FloatOps.maximumf y (constant S_ .f32 0xFF800000#32) reducesTo_S4x2x8x8192x511_S4x2x8x8192_d4 h_S_)

/-- One number per query, repeated along the keys. -/
def spread (x : FVec Ideal S4x2x8x8192 .f32) : FVec Ideal S4x2x8x8192x511 .f32 :=
  broadcastInDim S4x2x8x8192x511 ![0, 1, 2, 3, 4] bcast_S4x2x8x8192x1_S4x2x8x8192x511_0_1_2_3_4
    (broadcastInDim S4x2x8x8192x1 ![0, 1, 2, 3] bcast_S4x2x8x8192_S4x2x8x8192x1_0_1_2_3 x)

/-- The unnormalised weights. -/
def weight (y : FVec Ideal S4x2x8x8192x511 .f32) : FVec Ideal S4x2x8x8192x511 .f32 :=
  Host.exp (subf y (spread (top y)))

/-- The normalised weights, zeroed at the keys the query does not look at. -/
def prob (w : FVec Ideal S4x2x8x8192x511 .f32) : FVec Ideal S4x2x8x8192x511 .f32 :=
  mulf (Host.divf w (spread (Host.reduceAdd w (constant S_ .f32 0x00000000#32) reducesTo_S4x2x8x8192x511_S4x2x8x8192_d4 h_S_)))
    (broadcastInDim S4x2x8x8192x511 ![0, 1, 2, 3, 4] bcast_S1x1x1x8192x511_S4x2x8x8192x511_0_1_2_3_4
      (broadcastInDim S1x1x1x8192x511 ![3, 4] bcast_S8192x511_S1x1x1x8192x511_3_4 (uitofp .f32 mask)))

/-- The values weighted. -/
def mix (p : FVec Ideal S4x2x8x8192x511 .f32) (v : FVec Ideal S4x2x512x64 .bf16) : FVec Ideal S4x16x8192x64 .bf16 :=
  truncf .bf16 (shapeCast _ (Host.dotGeneral dot_S4x2x8x8192x511_S4x2x511x64_S4x2x8x8192x64_4_2_23_3_01_01 none p (extf .f32 (extractStridedSlice S4x2x511x64 ![0, 0, 0, 0] v slices_S4x2x512x64_S4x2x511x64_0_0_0_0) bitsLt_bf16_f32))
    shapeCasts_S4x2x8x8192x64_S4x16x8192x64) bitsLt_bf16_f32

/-- The reference's attention of queries, keys and values. -/
def attention (q : FVec Ideal S4x16x8192x64 .bf16) (k v : FVec Ideal S4x2x512x64 .bf16) : FVec Ideal S4x16x8192x64 .bf16 :=
  mix (prob (weight (masked (score q k)))) v

/-- The reference's run ends with this attention of its arguments. -/
theorem result_eq (m : (ℓ : Loc nD τ sig) → Buf (Elt Ideal) ℓ) (c : Dev nD) :
    Cert.CmpRefIdeal.Value.res_out0 m c = attention (m ((c.tc : Thread nD τ).loc main_arg0)) (m ((c.tc : Thread nD τ).loc main_arg1)) (m ((c.tc : Thread nD τ).loc main_arg2)) := rfl

end Cert.CmpRef

end
-- ==== Proof.CmpRefAt.lean ====
module

public import proofs.«01_k».proof.Proof.CmpRef
public import proofs.«01_k».proof.Proof.WinRefAt
public import proofs.«01_k».proof.Proof.Softmax
public import proofs.«01_k».proof.Proof.Words
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.CmpRef

open Cert.CmpRefIdeal Cert.CmpRefIdeal.Gen

/-- Whether the query at position `t` looks at compressed key `s`: the last position the key stands for is not after `t`. -/
def seen (t : Fin 8192) (s : Fin 511) : Prop := 16 * s.val + 31 ≤ t.val

instance (t : Fin 8192) : DecidablePred (seen t) := fun s => by unfold seen; infer_instance

/-- The last position a compressed key stands for, as a word. -/
theorem last (s : ℕ) (h : s < 511) : (16#32 * BitVec.ofNat 32 s + 32#32 - 1#32).toInt = 16 * (s : ℤ) + 31 := by
  simp only [BitVec.toInt_add, BitVec.toInt_sub, BitVec.toInt_mul, Words.toInt_small s (by omega), Words.toInt_small 16 (by omega),
    Words.toInt_small 32 (by omega), Words.toInt_small 1 (by omega), Int.bmod_def]
  omega

/-- The mask at a position and a compressed key. -/
theorem mask_at (t : Fin 8192) (s : Fin 511) : mask (ix2 t s) = BitVec.ofBool (decide (seen t s)) := by
  have h1 := last s.val s.isLt
  have h2 := WinRef.toInt_lt t.val t.isLt
  pointwise [mask]
  simp only [IntOp.cmpi, IntOp.subi, IntOp.addi, IntOp.muli, BitVec.sle_eq_decide, h1, h2, seen]
  exact congrArg BitVec.ofBool (decide_eq_decide.mpr (by omega))

/-- A score: the products of a query's and a key's entries, summed. -/
theorem score_at (q : FVec Ideal S4x16x8192x64 .bf16) (k : FVec Ideal S4x2x512x64 .bf16) (b : Fin 4) (g : Fin 2) (h : Fin 8) (t : Fin 8192) (s : Fin 511) :
    score q k (ix5 b g h t s) = ∑ e : Fin 64, q (ix4 b ⟨g.val * 8 + h.val, by omega⟩ t e) * k (ix4 b g (⟨s.val, by omega⟩ : Fin 512) e) := by
  pointwise [score]

/-- A masked score of the reference. -/
theorem masked_at (y : FVec Ideal S4x2x8x8192x511 .f32) (b : Fin 4) (g : Fin 2) (h : Fin 8) (t : Fin 8192) (s : Fin 511) :
    masked y (ix5 b g h t s) = Softmax.masked (seen t) (fun s => y (ix5 b g h t s)) s := by
  have hm := mask_at t s
  pointwise [masked]
  simp only [hm, WordCmp.select_decide, Softmax.masked]
  exact congrArg (fun z => if seen t s then y (ix5 b g h t s) else z) Words.negInf

/-- The largest masked score of a query. -/
theorem top_at (y : FVec Ideal S4x2x8x8192x511 .f32) (b : Fin 4) (g : Fin 2) (h : Fin 8) (t : Fin 8192) :
    top y (ix4 b g h t) = Finset.univ.fold max ⊥ (fun s => y (ix5 b g h t s)) := by
  rw [top]
  refine (WinRef.max_last _ _ _ y _ b g h t).trans ?_
  rw [Words.negInf]
  exact max_eq_right bot_le

/-- A value per query, spread over the keys. -/
theorem spread_at (x : FVec Ideal S4x2x8x8192 .f32) (b : Fin 4) (g : Fin 2) (h : Fin 8) (t : Fin 8192) (s : Fin 511) :
    spread x (ix5 b g h t s) = x (ix4 b g h t) := by
  pointwise [spread]

/-- A weight before the mask: the exponential of the score less the largest. -/
theorem weight_raw (y : FVec Ideal S4x2x8x8192x511 .f32) (b : Fin 4) (g : Fin 2) (h : Fin 8) (t : Fin 8192) (s : Fin 511) :
    weight y (ix5 b g h t s) = Ideal.exp (y (ix5 b g h t s) - spread (top y) (ix5 b g h t s)) := by
  pointwise [weight]

/-- A weight of the reference. -/
theorem weight_at (y : FVec Ideal S4x2x8x8192x511 .f32) (b : Fin 4) (g : Fin 2) (h : Fin 8) (t : Fin 8192) (s : Fin 511) :
    weight (masked y) (ix5 b g h t s) = Softmax.weight (seen t) (fun s => y (ix5 b g h t s)) s := by
  rw [weight_raw, spread_at, top_at]
  simp only [masked_at]
  rw [Softmax.weight, Softmax.top]

/-- A weight divided by the sum of the weights of its query, and 0 for a key the query does not see. -/
theorem prob_at (w : FVec Ideal S4x2x8x8192x511 .f32) (b : Fin 4) (g : Fin 2) (h : Fin 8) (t : Fin 8192) (s : Fin 511) :
    prob w (ix5 b g h t s) = Ideal.div (w (ix5 b g h t s)) (∑ s, w (ix5 b g h t s)) * (if seen t s then 1 else 0) := by
  have hm := mask_at t s
  pointwise [prob, spread]
  rw [hm]
  refine congrArg (Ideal.div (w (ix5 b g h t s)) (∑ x, w (ix5 b g h t x)) * ·) ?_
  by_cases hs : seen t s
  · simp [hs, FloatOps.uitofp]
  · simp [hs, FloatOps.uitofp]

/-- The sum of the values times their shares. -/
theorem mix_at (p : FVec Ideal S4x2x8x8192x511 .f32) (v : FVec Ideal S4x2x512x64 .bf16) (b : Fin 4) (g : Fin 2) (h : Fin 8) (t : Fin 8192) (d : Fin 64) :
    mix p v (ix4 b ⟨g.val * 8 + h.val, by omega⟩ t d) = ∑ s : Fin 511, p (ix5 b g h t s) * v (ix4 b g (⟨s.val, by omega⟩ : Fin 512) d) := by
  pointwise [mix]

/-- The reference's attention at an index: the values the query looks at, weighted by its softmax. -/
theorem attention_at (q : FVec Ideal S4x16x8192x64 .bf16) (k v : FVec Ideal S4x2x512x64 .bf16) (b : Fin 4) (g : Fin 2) (h : Fin 8) (t : Fin 8192) (d : Fin 64) :
    attention q k v (ix4 b ⟨g.val * 8 + h.val, by omega⟩ t d)
      = ∑ s : Fin 511, Ideal.div (Softmax.weight (seen t) (fun s => score q k (ix5 b g h t s)) s)
            (∑ s : Fin 511, Softmax.weight (seen t) (fun s => score q k (ix5 b g h t s)) s)
          * (if seen t s then 1 else 0) * v (ix4 b g (⟨s.val, by omega⟩ : Fin 512) d) := by
  rw [attention, mix_at]
  simp only [prob_at, weight_at]

end Cert.CmpRef

end
-- ==== Proof.CmpFinite.lean ====
module

public import proofs.«01_k».proof.Proof.Gen.Pre_finite_cmp
public import proofs.«01_k».proof.Proof.CmpRefAt
public import proofs.«01_k».proof.Proof.WinFinite
public import proofs.«01_k».proof.Proof.Words
public import Idealize.ShloMosaic.Lib.Pointwise
public import Idealize.ShloMosaic.Lib.WordCmp
public import Idealize.ShloMosaic.Lib.Decide

@[expose] public section

set_option maxRecDepth 16384

noncomputable section

open Idealize.ShloMosaic Idealize.ShloMosaic.TcCoe Idealize.SL.Sem

namespace Cert.CmpFinite

open Cert.Pre_finite_cmp

/-- The precondition at an index: the query's and the key's entry are real. The positions of the queries are sixteen runs of 512. -/
theorem at_index (q : FVec Ideal S4x16x8192x64 .bf16) (k v : FVec Ideal S4x2x512x64 .bf16)
    (h : fn (F := Ideal) q k v = fun _ => 1#1) (b : Fin 4) (g : Fin 2) (a : Fin 8) (u : Fin 16) (s : Fin 512) (e : Fin 64) :
    (∃ r : ℝ, q (ix4 b ⟨g.val * 8 + a.val, by omega⟩ ⟨u.val * 512 + s.val, by omega⟩ e) = r) ∧ ∃ r : ℝ, k (ix4 b g s e) = r := by
  have h1 := congrFun h (ix6 b g a u s e)
  pointwise [fn] at h1
  rw [Words.posInf, IntOp.andi, Words.ofBool_and] at h1
  have h2 : (decide (FloatOps.absf (F := Ideal) (φ := .bf16) (q (ix4 b ⟨g.val * 8 + a.val, by omega⟩ ⟨u.val * 512 + s.val, by omega⟩ e)) < (⊤ : EReal))
      && decide (FloatOps.absf (F := Ideal) (φ := .bf16) (k (ix4 b g s e)) < (⊤ : EReal))) = true := by
    by_contra hc
    rw [Bool.not_eq_true] at hc
    erw [hc] at h1
    exact absurd h1 (by decide)
  rw [Bool.and_eq_true, decide_eq_true_eq, decide_eq_true_eq] at h2
  exact ⟨WinFinite.real_of_abs _ h2.1, WinFinite.real_of_abs _ h2.2⟩

/-- Under the precondition every query entry is a real. -/
theorem query_real (q : FVec Ideal S4x16x8192x64 .bf16) (k v : FVec Ideal S4x2x512x64 .bf16)
    (h : fn (F := Ideal) q k v = fun _ => 1#1) (b : Fin 4) (g : Fin 2) (a : Fin 8) (t : Fin 8192) (e : Fin 64) :
    ∃ r : ℝ, q (ix4 b ⟨g.val * 8 + a.val, by omega⟩ t e) = r := by
  have := (at_index q k v h b g a ⟨t.val / 512, by omega⟩ ⟨t.val % 512, by omega⟩ e).1
  have ht : (⟨t.val / 512 * 512 + t.val % 512, by omega⟩ : Fin 8192) = t := Fin.ext (by dsimp only; omega)
  rwa [ht] at this

/-- Under the precondition every score is a real. -/
theorem score_real (q : FVec Ideal S4x16x8192x64 .bf16) (k v : FVec Ideal S4x2x512x64 .bf16)
    (h : fn (F := Ideal) q k v = fun _ => 1#1) (b : Fin 4) (g : Fin 2) (a : Fin 8) (t : Fin 8192) (s : Fin 511) :
    ∃ r : ℝ, CmpRef.score q k (ix5 b g a t s) = r := by
  rw [CmpRef.score_at]
  choose x hx using fun e => query_real q k v h b g a t e
  choose y hy using fun e => (at_index q k v h b g a 0 ⟨s.val, by omega⟩ e).2
  refine ⟨∑ e, x e * y e, ?_⟩
  rw [← Softmax.coe_sum]
  exact Finset.sum_congr rfl fun e _ => by rw [hx e, hy e, EReal.coe_mul]

end Cert.CmpFinite

end
-- ==== Proof.CmpValue.lean ====
module

public import proofs.«01_k».proof.Proof.Gen.CmpIdeal.Value
public import proofs.«01_k».proof.Proof.CmpBlock
public import proofs.«01_k».proof.Proof.CmpFinite
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.CmpIdeal.Compressed

open Cert.CmpIdeal Cert.CmpIdeal.Gen

variable (m : (ℓ : Loc nD τ sig) → Buf (Elt Ideal) ℓ)

/-- Each window's block index at a grid point. -/
theorem idx : ∀ t : Fin cfg0.N,
    win0_0.index t = ![(grid0.coords t 0).val, (grid0.coords t 1).val, (grid0.coords t 2).val, 0]
    ∧ win0_1.index t = ![(grid0.coords t 0).val, (grid0.coords t 1).val, 0, 0]
    ∧ win0_2.index t = ![(grid0.coords t 0).val, (grid0.coords t 1).val, 0, 0]
    ∧ win0_4.index t = ![(grid0.coords t 0).val, (grid0.coords t 1).val, (grid0.coords t 2).val, 0] :=
  (by decide +kernel : ∀ t : Fin grid0.N, _)

/-- The block of queries at an index of it. -/
theorem queries (c : Dev nD) (t : Fin cfg0.N) (b : Fin 4) (g : Fin 2) (i : Fin 64) (hb : (grid0.coords t 0).val = b.val)
    (hg : (grid0.coords t 1).val = g.val) (hi : (grid0.coords t 2).val = i.val) (h : Fin 8) (r : Fin 128) (d : Fin 64) :
    iblk m c 0 t (ix4 0 h r d) = m ((c : Thread nD τ).loc main_arg0)
      (ix4 b (⟨g.val * 8 + h.val, by omega⟩ : Fin 16) (⟨128 * i.val + r.val, by omega⟩ : Fin 8192) d) := by
  rw [← V_main_arg0 m c]
  blk_ext [iblk, idx t]

/-- The block of compressed keys at an index of it. -/
theorem keys (c : Dev nD) (t : Fin cfg0.N) (b : Fin 4) (g : Fin 2) (hb : (grid0.coords t 0).val = b.val)
    (hg : (grid0.coords t 1).val = g.val) (j : Fin 512) (d : Fin 64) :
    iblk m c 1 t (ix4 0 0 j d) = m ((c : Thread nD τ).loc main_arg1) (ix4 b g j d) := by
  rw [← V_main_arg1 m c]
  blk_ext [iblk, idx t]

/-- The block of compressed values at an index of it. -/
theorem values (c : Dev nD) (t : Fin cfg0.N) (b : Fin 4) (g : Fin 2) (hb : (grid0.coords t 0).val = b.val)
    (hg : (grid0.coords t 1).val = g.val) (j : Fin 512) (d : Fin 64) :
    iblk m c 2 t (ix4 0 0 j d) = m ((c : Thread nD τ).loc main_arg2) (ix4 b g j d) := by
  rw [← V_main_arg2 m c]
  blk_ext [iblk, idx t]

/-- A query of a block looks, under the kernel's mask, at the compressed keys the reference's mask leaves. -/
theorem same (i : Fin 64) (r : Fin 128) :
    Softmax.Same (Block.seen i.val r) (CmpRef.seen ⟨128 * i.val + r.val, by omega⟩)
      (fun j : Fin 512 => if h : j.val < 511 then (⟨j.val, h⟩ : Fin 511) else 0) where
  maps j hj := by
    rw [dif_pos hj.2]
    exact hj.1
  inj j j' hj hj' e := by
    rw [dif_pos hj.2, dif_pos hj'.2] at e
    exact Fin.ext (Fin.mk.inj e)
  surj s hs := ⟨⟨s.val, by omega⟩, ⟨hs, s.isLt⟩, dif_pos s.isLt⟩

/-- What the body stores at an index of its block is the reference's attention at the array index where the block puts it. -/
theorem point (c : Dev nD) (hpre : Cert.Pre_finite_cmp.fn (F := Ideal) (m ((c : Thread nD τ).loc main_arg0)) (m ((c : Thread nD τ).loc main_arg1))
      (m ((c : Thread nD τ).loc main_arg2)) = fun _ => 1#1)
    (t : Fin cfg0.N) (b : Fin 4) (g : Fin 2) (i : Fin 64) (hb : (grid0.coords t 0).val = b.val)
    (hg : (grid0.coords t 1).val = g.val) (hi : (grid0.coords t 2).val = i.val) (h : Fin 8) (r : Fin 128) (d : Fin 64) :
    k0_pay5 (F := Ideal) (k0_pay2 (grid0.coords t) (iblk m c 0 t) (iblk m c 1 t)) (k0_pay3 (grid0.coords t) (iblk m c 0 t) (iblk m c 1 t))
      (iblk m c 2 t) (ix4 0 h r d)
    = CmpRef.attention (m ((c : Thread nD τ).loc main_arg0)) (m ((c : Thread nD τ).loc main_arg1)) (m ((c : Thread nD τ).loc main_arg2))
        (ix4 b (⟨g.val * 8 + h.val, by omega⟩ : Fin 16) (⟨128 * i.val + r.val, by omega⟩ : Fin 8192) d) := by
  refine (Block.stored _ _ _ h r d).trans ?_
  simp only [Block.scaled, Block.total, Block.weights]
  rw [hi]
  refine Eq.trans ?_ (CmpRef.attention_at _ _ _ b g h _ d).symm
  refine Softmax.row_scaled (same i r) _ _ _ _ (fun j hj => ?_) (fun j hj => ?_) (fun s _ => ?_)
  · rw [dif_pos hj.2]
    refine Eq.trans ?_ (CmpRef.score_at _ _ b g h _ _).symm
    exact Finset.sum_congr rfl fun e _ => Ideal.mul_congr (queries m c t b g i hb hg hi h r e) (keys m c t b g hb hg j e)
  · rw [dif_pos hj.2]
    exact values m c t b g hb hg j d
  · exact CmpFinite.score_real _ _ _ hpre b g h _ s

/-- The first result's array after the run is the reference's attention of the argument arrays. -/
theorem final (c : Dev nD) (hpre : Cert.Pre_finite_cmp.fn (F := Ideal) (m ((c : Thread nD τ).loc main_arg0)) (m ((c : Thread nD τ).loc main_arg1))
      (m ((c : Thread nD τ).loc main_arg2)) = fun _ => 1#1) : (dats m 0 c).arrAt 4 cfg0.N
    = CmpRef.attention (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; unfold_out out0_4; frame_out
  idx_vars y
  obtain rfl : y0 = 0 := Subsingleton.elim _ _
  refine (point m c hpre t (grid0.coords t 0) (grid0.coords t 1) (grid0.coords t 2) rfl rfl rfl y1 y2 y3).trans ?_
  refine congrArg _ ?_
  blk_ext [idx t]

end Cert.CmpIdeal.Compressed

end
-- ==== Proof.Rounds.lean ====
module

public import Idealize.ShloMosaic.Lib.Pointwise
public import Idealize.ShloMosaic.Lib.SortFacts

@[expose] public section

noncomputable section

open Idealize.ShloMosaic

namespace Rounds

variable {n : ℕ}

/-- A place a round takes: it holds the greatest number of the row, and no place before it holds it. -/
def Hit (y : Fin n → EReal) (j : Fin n) : Prop := (∀ i, y i ≤ y j) ∧ ∀ i, i < j → y i < y j

/-- One place comes before another in descending order: it holds more, or as much at a smaller index. -/
def Before (y : Fin n → EReal) (i j : Fin n) : Prop := y j < y i ∨ y i = y j ∧ i < j

open Classical in
/-- What is left of a row after some rounds: minus infinity where a round took its place. -/
def left (y : Fin n → EReal) : ℕ → Fin n → EReal
  | 0 => y
  | k + 1 => fun j => if Hit (left y k) j then ⊥ else left y k j

/-- The places the first rounds take. -/
def Taken (y : Fin n → EReal) : ℕ → Fin n → Prop
  | 0 => fun _ => False
  | k + 1 => fun j => Taken y k j ∨ Hit (left y k) j

/-- A round takes at most one place. -/
theorem Hit.unique {y : Fin n → EReal} {i j : Fin n} (hi : Hit y i) (hj : Hit y j) : i = j := by
  rcases lt_trichotomy i j with h | h | h
  · exact absurd (hi.1 j) (not_le.mpr (hj.2 i h))
  · exact h
  · exact absurd (hj.1 i) (not_le.mpr (hi.2 j h))

/-- Of a row without minus infinity, put in descending order by a permutation, the next round takes the next place in that order. -/
theorem hit_iff (y : Fin n → EReal) (hy : ∀ j, ⊥ < y j) (σ : Fin n → Fin n) (hσ : Function.Bijective σ)
    (ho : ∀ a b, a < b → Before y (σ a) (σ b)) (k : Fin n) (z : Fin n → EReal)
    (hz : ∀ b, z (σ b) = if b < k then ⊥ else y (σ b)) (j : Fin n) : Hit z j ↔ σ k = j := by
  have hk : Hit z (σ k) := by
    have e : z (σ k) = y (σ k) := by rw [hz, if_neg (lt_irrefl k)]
    constructor
    · intro i
      obtain ⟨b, rfl⟩ := hσ.2 i
      rw [e, hz]
      split
      · exact bot_le
      · rename_i h
        rcases (not_lt.mp h).lt_or_eq with h | h
        · rcases ho k b h with h | h
          · exact h.le
          · exact h.1.ge
        · rw [h]
    · intro i hi
      obtain ⟨b, rfl⟩ := hσ.2 i
      rw [e, hz]
      split
      · exact hy _
      · rename_i h
        rcases (not_lt.mp h).lt_or_eq with h | h
        · rcases ho k b h with h | h
          · exact h
          · exact absurd h.2 (not_lt.mpr hi.le)
        · exact absurd hi (by rw [h]; exact lt_irrefl _)
  exact ⟨fun h => hk.unique h, fun h => h ▸ hk⟩

/-- After some rounds, minus infinity stands in the places that come first in descending order, and the row in the others. -/
theorem left_eq (y : Fin n → EReal) (hy : ∀ j, ⊥ < y j) (σ : Fin n → Fin n) (hσ : Function.Bijective σ)
    (ho : ∀ a b, a < b → Before y (σ a) (σ b)) (k : ℕ) (hk : k ≤ n) (b : Fin n) :
    left y k (σ b) = if b.val < k then ⊥ else y (σ b) := by
  induction k generalizing b with
  | zero => simp [left]
  | succ k ih =>
    have h := hit_iff y hy σ hσ ho ⟨k, hk⟩ (left y k) (fun b => ih (by omega) b) (σ b)
    simp only [left, h, hσ.1.eq_iff]
    rw [ih (by omega)]
    by_cases e : (⟨k, hk⟩ : Fin n) = b
    · rw [if_pos e, if_pos (by have := congrArg Fin.val e; simp only at this; omega)]
    · rw [if_neg e]
      have : b.val ≠ k := fun h => e (Fin.ext h.symm)
      exact if_congr (by omega) rfl rfl

/-- The places the first rounds take are those that come first in descending order. -/
theorem taken_iff (y : Fin n → EReal) (hy : ∀ j, ⊥ < y j) (σ : Fin n → Fin n) (hσ : Function.Bijective σ)
    (ho : ∀ a b, a < b → Before y (σ a) (σ b)) (k : ℕ) (hk : k ≤ n) (j : Fin n) :
    Taken y k j ↔ ∃ b : Fin n, b.val < k ∧ σ b = j := by
  induction k with
  | zero => simp [Taken]
  | succ k ih =>
    have h := hit_iff y hy σ hσ ho ⟨k, hk⟩ (left y k) (fun b => left_eq y hy σ hσ ho k (by omega) b) j
    simp only [Taken, h, ih (by omega)]
    constructor
    · rintro (⟨b, hb, e⟩ | e)
      · exact ⟨b, by omega, e⟩
      · exact ⟨_, by simp, e⟩
    · rintro ⟨b, hb, e⟩
      by_cases hbk : b.val = k
      · exact Or.inr (by rw [← e]; exact congrArg σ (Fin.ext hbk.symm))
      · exact Or.inl ⟨b, by omega, e⟩

/-- Putting a place of smaller index into an ordered list leaves it ordered. -/
theorem insert_ordered (y : Fin n → EReal) (a : Fin n) (l : List (Fin n)) (ha : ∀ b ∈ l, a < b) (hl : l.Pairwise (Before y)) :
    (insertBefore (fun i j => decide (y j < y i)) a l).Pairwise (Before y) := by
  induction l with
  | nil => exact List.pairwise_singleton _ _
  | cons b l ih =>
    rw [List.pairwise_cons] at hl
    unfold insertBefore
    split
    · rename_i h
      refine List.pairwise_cons.mpr ⟨fun c hc => ?_, ih (fun c hc => ha c (List.mem_cons_of_mem _ hc)) hl.2⟩
      rcases List.mem_cons.mp ((perm_insertBefore _ a l).mem_iff.mp hc) with rfl | hc
      · exact Or.inl (of_decide_eq_true h)
      · exact hl.1 c hc
    · rename_i h
      have hb : y b ≤ y a := not_lt.mp fun g => h (decide_eq_true g)
      refine List.pairwise_cons.mpr ⟨fun c hc => ?_, List.pairwise_cons.mpr hl⟩
      have hc' : y c ≤ y a := by
        rcases List.mem_cons.mp hc with rfl | hc
        · exact hb
        · rcases hl.1 c hc with g | g
          · exact g.le.trans hb
          · exact g.1.ge.trans hb
      rcases hc'.lt_or_eq with g | g
      · exact Or.inl g
      · exact Or.inr ⟨g.symm, ha c hc⟩

/-- The stable sort puts a list of increasing places in descending order. -/
theorem sort_ordered (y : Fin n → EReal) (l : List (Fin n)) (hl : l.Pairwise (· < ·)) :
    (stableSort (fun i j => decide (y j < y i)) l).Pairwise (Before y) := by
  induction l with
  | nil => exact List.Pairwise.nil
  | cons a l ih =>
    rw [List.pairwise_cons] at hl
    unfold stableSort
    exact insert_ordered y a _ (fun b hb => hl.1 b ((perm_stableSort _ l).mem_iff.mp hb)) (ih hl.2)

/-- The place a stable descending sort brings to a position. -/
def order (y : Fin n → EReal) : Fin n → Fin n := sortedFrom fun i j => decide (y j < y i)

/-- An earlier number of the sorted ones comes before a later one. -/
theorem order_ordered (y : Fin n → EReal) (a b : Fin n) (h : a < b) : Before y (order y a) (order y b) :=
  List.pairwise_iff_get.mp (sort_ordered y (List.finRange n) (List.pairwise_lt_finRange n)) _ _ (Fin.lt_def.mpr (Fin.lt_def.mp h))

/-- Sorting takes every place once. -/
theorem order_bijective (y : Fin n → EReal) : Function.Bijective (order y) :=
  ⟨sortedFrom_injective _, sortedFrom_surjective _⟩

/-- The first rounds take the places a stable descending sort brings first. -/
theorem taken_order (y : Fin n → EReal) (hy : ∀ j, ⊥ < y j) (k : ℕ) (hk : k ≤ n) (j : Fin n) :
    Taken y k j ↔ ∃ b : Fin n, b.val < k ∧ order y b = j :=
  taken_iff y hy _ (order_bijective y) (order_ordered y) k hk j

end Rounds

end
-- ==== Proof.BiasRef.lean ====
module

public import proofs.«01_k».proof.Proof.CmpRefAt
public import proofs.«01_k».proof.Proof.Rounds

@[expose] public section

set_option maxRecDepth 16384

noncomputable section

open Idealize.ShloMosaic Idealize.ShloMosaic.TcCoe Idealize.SL.Sem

namespace Cert.CmpRef

open Cert.CmpRefIdeal Cert.CmpRefIdeal.Gen

/-- The query positions, as a column of words. -/
def times : IVec S8192x1 32 := broadcastInDim S8192x1 ![0] bcast_S8192_S8192x1_0 (iotaInDim S8192 32 0)

/-- The numbers of the blocks, as a row of words. -/
def blocks : IVec S1x128 32 := broadcastInDim S1x128 ![1] bcast_S128_S1x128_1 (iotaInDim S128 32 0)

/-- The first positions of the blocks, as a row of words. -/
def starts : IVec S1x128 32 :=
  broadcastInDim S1x128 ![1] bcast_S128_S1x128_1 (muli (broadcastInDim S128 ![] bcast_S_S128 (constantI S_ 32 64#32)) (iotaInDim S128 32 0))

/-- The first positions the compressed keys stand for, as a column of words. -/
def begins : IVec S511x1 32 :=
  broadcastInDim S511x1 ![0] bcast_S511_S511x1_0 (muli (broadcastInDim S511 ![] bcast_S_S511 (constantI S_ 32 16#32)) (iotaInDim S511 32 0))

/-- The same word in a column. -/
def same (x : BitVec 32) : IVec S8192x1 32 := broadcastInDim S8192x1 ![] bcast_S_S8192x1 (constantI S_ 32 x)

/-- The block each query position is in: the quotient by 64, rounded down. -/
def current : IVec S8192x1 32 :=
  select (andi (cmpi .ne (signi times) (broadcastInDim S8192x1 ![] bcast_S_S8192x1 (signi (id (constantI S_ 32 64#32)))))
      (cmpi .ne (Host.remsi times (broadcastInDim S8192x1 ![] bcast_S_S8192x1 (id (constantI S_ 32 64#32)))) (same 0#32)))
    (subi (Host.divsi times (broadcastInDim S8192x1 ![] bcast_S_S8192x1 (id (constantI S_ 32 64#32)))) (same 1#32))
    (Host.divsi times (broadcastInDim S8192x1 ![] bcast_S_S8192x1 (id (constantI S_ 32 64#32))))

/-- A row of the blocks, for every query position. -/
def rows (x : IVec S1x128 32) : IVec S8192x128 32 := broadcastInDim S8192x128 ![0, 1] bcast_S1x128_S8192x128_0_1 x

/-- A column of the query positions, for every block. -/
def columns (x : IVec S8192x1 32) : IVec S8192x128 32 := broadcastInDim S8192x128 ![0, 1] bcast_S8192x1_S8192x128_0_1 x

/-- The blocks every query takes: the first one, its own and the one before. -/
def forced : IVec S8192x128 1 :=
  ori (ori (broadcastInDim S8192x128 ![0, 1] bcast_S1x128_S8192x128_0_1 (cmpi .eq blocks (broadcastInDim S1x128 ![] bcast_S_S1x128 (constantI S_ 32 0#32))))
    (cmpi .eq (rows blocks) (columns current))) (cmpi .eq (rows blocks) (columns (subi current (same 1#32))))

/-- The blocks that do not start after the query. -/
def begun : IVec S8192x128 1 := cmpi .sle (rows starts) (columns times)

/-- The part of a compressed key's positions that lies in a block. -/
def overlap : FVec Ideal S511x128 .f32 :=
  Host.divf (sitofp .f32 (maxsi (broadcastInDim S511x128 ![] bcast_S_S511x128 (id (constantI S_ 32 0#32)))
    (subi (minsi (broadcastInDim S511x128 ![0, 1] bcast_S511x1_S511x128_0_1 (addi begins (broadcastInDim S511x1 ![] bcast_S_S511x1 (constantI S_ 32 32#32))))
        (broadcastInDim S511x128 ![0, 1] bcast_S1x128_S511x128_0_1 (addi starts (broadcastInDim S1x128 ![] bcast_S_S1x128 (constantI S_ 32 64#32)))))
      (maxsi (broadcastInDim S511x128 ![0, 1] bcast_S511x1_S511x128_0_1 begins) (broadcastInDim S511x128 ![0, 1] bcast_S1x128_S511x128_0_1 starts)))))
    (broadcastInDim S511x128 ![] bcast_S_S511x128 (constant S_ .f32 0x42000000#32))

/-- The importance of a block: the weights of its group's heads, summed, times the overlaps. -/
def importance (p : FVec Ideal S4x2x8x8192x511 .f32) : FVec Ideal S4x2x8192x128 .f32 :=
  Host.dotGeneral dot_S4x2x8192x511_S511x128_S4x2x8192x128_3_0_012_1_n_n none
    (Host.reduceAdd p (constant S_ .f32 0x00000000#32) reducesTo_S4x2x8x8192x511_S4x2x8192x511_d2 h_S_) overlap

/-- The scores of the blocks: 100 for a block every query takes, the importance for another that does not start after the query, −1 for the rest. -/
def ranked (y : FVec Ideal S4x2x8192x128 .f32) : FVec Ideal S4x2x8192x128 .f32 :=
  select (broadcastInDim S4x2x8192x128 ![2, 3] bcast_S8192x128_S4x2x8192x128_2_3 forced)
    (broadcastInDim S4x2x8192x128 ![] bcast_S_S4x2x8192x128 (id (constant S_ .f32 0x42C80000#32)))
    (select (broadcastInDim S4x2x8192x128 ![2, 3] bcast_S8192x128_S4x2x8192x128_2_3 begun) y
      (broadcastInDim S4x2x8192x128 ![] bcast_S_S4x2x8192x128 (id (constant S_ .f32 0xBF800000#32))))

/-- The sixteen blocks of the greatest scores. -/
def best (y : FVec Ideal S4x2x8192x128 .f32) : IVec S4x2x8192x16 32 :=
  (Host.topK S4x2x8192x16 3 (FloatOps.cmpfTotal .gt) y sliceFits_S4x2x8192x128_S4x2x8192x16).2

/-- Whether a block is among the sixteen. -/
def picked (s : IVec S4x2x8192x16 32) : IVec S4x2x8192x128 1 :=
  Host.reduce IntOp.ori (cmpi .eq (broadcastInDim S4x2x8192x128x16 ![0, 1, 2, 3, 4] bcast_S4x2x8192x1x16_S4x2x8192x128x16_0_1_2_3_4
      (broadcastInDim S4x2x8192x1x16 ![0, 1, 2, 4] bcast_S4x2x8192x16_S4x2x8192x1x16_0_1_2_4 s))
    (broadcastInDim S4x2x8192x128x16 ![0, 1, 2, 3, 4] bcast_S1x1x1x128x1_S4x2x8192x128x16_0_1_2_3_4
      (broadcastInDim S1x1x1x128x1 ![3, 4] bcast_S128x1_S1x1x1x128x1_3_4 (broadcastInDim S128x1 ![0] bcast_S128_S128x1_0 (iotaInDim S128 32 0)))))
    (constantI S_ 1 0#1) reducesTo_S4x2x8192x128x16_S4x2x8192x128_d4 h_S_

/-- Zero at a block taken that is not after the query's own, minus infinity elsewhere. -/
def mark (p : IVec S4x2x8192x128 1) : FVec Ideal S4x2x8192x128 .bf16 :=
  truncf .bf16 (select (andi p (broadcastInDim S4x2x8192x128 ![0, 1, 2, 3] bcast_S1x1x8192x128_S4x2x8192x128_0_1_2_3
      (broadcastInDim S1x1x8192x128 ![2, 3] bcast_S8192x128_S1x1x8192x128_2_3 (cmpi .sle (rows blocks) (columns current)))))
    (broadcastInDim S4x2x8192x128 ![] bcast_S_S4x2x8192x128 (constant S_ .f32 0x00000000#32))
    (broadcastInDim S4x2x8192x128 ![] bcast_S_S4x2x8192x128 (constant S_ .f32 0xFF800000#32))) bitsLt_bf16_f32

/-- The reference's second result: which blocks each query may look at. -/
def selection (q : FVec Ideal S4x16x8192x64 .bf16) (k : FVec Ideal S4x2x512x64 .bf16) : FVec Ideal S4x2x8192x128 .bf16 :=
  mark (picked (best (ranked (importance (prob (weight (masked (score q k))))))))

/-- The reference's run ends with this selection of its arguments. -/
theorem selection_eq (m : (ℓ : Loc nD τ sig) → Buf (Elt Ideal) ℓ) (c : Dev nD) :
    Cert.CmpRefIdeal.Value.res_out1 m c = selection (m ((c.tc : Thread nD τ).loc main_arg0)) (m ((c.tc : Thread nD τ).loc main_arg1)) := rfl

end Cert.CmpRef

end
-- ==== Proof.BiasRounds.lean ====
module

public import proofs.«01_k».proof.Proof.Gen.CmpIdeal.Frame
public import proofs.«01_k».proof.Proof.Rounds
public import proofs.«01_k».proof.Proof.Words
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.CmpIdeal.Bias

open Cert.CmpIdeal Cert.CmpIdeal.Gen

/-- A row's places, as words. -/
def places : IVec S128x128 32 := iota .tc S128x128 32 [1] iota_S128x128_d1_w32

/-- The place of each row that one round takes: the first of those that hold the row's greatest number. -/
def hit (x : FVec Ideal S128x128 .f32) : IVec S128x128 1 :=
  cmpi .eq places (broadcastTo S128x128 (shapeCast S128x1 (multiReductionI .minsi [1] S128 (select (cmpf .oeq x
    (broadcastTo S128x128 (shapeCast S128x1 (multiReduction .maximumf [1] S128 x 0xFF800000#32 reduces_S128x128_S128 (.inl rfl) rfl)
      shapeCasts_S128_S128x1) broadcasts_S128x1_S128x128)) places (broadcast S128x128 128#32))
    2147483647#32 reduces_S128x128_S128 rfl) shapeCasts_S128_S128x1) broadcasts_S128x1_S128x128)

/-- The rows with minus infinity at the places a round takes. -/
def drop (x : FVec Ideal S128x128 .f32) : FVec Ideal S128x128 .f32 :=
  select (hit x) (broadcast S128x128 (Scalar.ofBits .f32 0xFF800000#32)) x

/-- What is left after some rounds. -/
def rest (x : FVec Ideal S128x128 .f32) : ℕ → FVec Ideal S128x128 .f32
  | 0 => x
  | k + 1 => drop (rest x k)

/-- The places the first rounds take. -/
def marks (x : FVec Ideal S128x128 .f32) : ℕ → IVec S128x128 1
  | 0 => broadcast S128x128 0#1
  | k + 1 => ori (marks x k) (hit (rest x k))

/-- The bias from the places taken and the block a query is in: zero at a place taken that is not after the block, minus infinity elsewhere. -/
def bias (p : IVec S128x128 1) (cur : IVec S128x128 32) : FVec Ideal S1x1x128x128 .bf16 :=
  shapeCast S1x1x128x128 (truncf .bf16 (select (andi p (cmpi .sle places cur)) (broadcast S128x128 (Scalar.ofBits .f32 0x00000000#32))
    (broadcast S128x128 (Named.named (F := Ideal) κ "mask" (φ := .f32) 0xF149F2CA#32))) bitsLt_bf16_f32) shapeCasts_S128x128_S1x1x128x128

variable (x : FVec Ideal S128x128 .f32)

/-- Each row's greatest number. -/
def most : FVec Ideal S128x1 .f32 :=
  shapeCast S128x1 (multiReduction .maximumf [1] S128 x 0xFF800000#32 reduces_S128x128_S128 (.inl rfl) rfl) shapeCasts_S128_S128x1

/-- The same, along its row. -/
def along : FVec Ideal S128x128 .f32 := broadcastTo S128x128 (most x) broadcasts_S128x1_S128x128

/-- The places that hold the row's greatest number, and 128 elsewhere. -/
def holders : IVec S128x128 32 := select (cmpf .oeq x (along x)) places (broadcast S128x128 128#32)

/-- The first of the places that hold the row's greatest number. -/
def lowest : IVec S128x1 32 :=
  shapeCast S128x1 (multiReductionI .minsi [1] S128 (holders x) 2147483647#32 reduces_S128x128_S128 rfl) shapeCasts_S128_S128x1

/-- The same, along its row. -/
def lowestAlong : IVec S128x128 32 := broadcastTo S128x128 (lowest x) broadcasts_S128x1_S128x128

/-- Rounds one to four, as the body computes them, each from the one before it. -/
theorem r1 : k0_pay13 places (lowest x) = hit x := rfl
/-- What is left after a round. -/
theorem d1 (l : IVec S128x1 32) : k0_pay14 places x l = select (k0_pay13 places l) (broadcast S128x128 (Scalar.ofBits .f32 0xFF800000#32)) x := rfl
/-- The place a round takes. -/
theorem r2 (l : IVec S128x1 32) : k0_pay15 places x l = hit (k0_pay14 places x l) := rfl
/-- What is left after a round. -/
theorem d2 (l : IVec S128x1 32) : k0_pay16 places x l
    = select (k0_pay15 places x l) (broadcast S128x128 (Scalar.ofBits .f32 0xFF800000#32)) (k0_pay14 places x l) := rfl
/-- The place a round takes. -/
theorem r3 (l : IVec S128x1 32) : k0_pay17 places x l = hit (k0_pay16 places x l) := rfl
/-- What is left after a round. -/
theorem d3 (l : IVec S128x1 32) : k0_pay18 places x l
    = select (k0_pay17 places x l) (broadcast S128x128 (Scalar.ofBits .f32 0xFF800000#32)) (k0_pay16 places x l) := rfl
/-- The place a round takes. -/
theorem r4 (l : IVec S128x1 32) : k0_pay19 places x l = hit (k0_pay18 places x l) := rfl
/-- What is left after a round. -/
theorem d4 (l : IVec S128x1 32) : k0_pay21 places x l
    = select (k0_pay19 places x l) (broadcast S128x128 (Scalar.ofBits .f32 0xFF800000#32)) (k0_pay18 places x l) := rfl
/-- The greatest number of what is left after the fourth round. -/
theorem m4 (l : IVec S128x1 32) : k0_pay22 places x l = most (k0_pay21 places x l) := rfl
/-- The places taken by the rounds so far. -/
theorem p4 (p : IVec S128x128 1) (l : IVec S128x1 32) : k0_pay20 places x p l
    = ori (ori (ori (ori p (k0_pay13 places l)) (k0_pay15 places x l)) (k0_pay17 places x l)) (k0_pay19 places x l) := rfl

/-- A round, folded up. -/
theorem fold_drop : select (hit x) (broadcast S128x128 (Scalar.ofBits .f32 0xFF800000#32)) x = drop x := rfl

/-- What is left after rounds one to four. -/
theorem first_left : k0_pay21 places x (lowest x) = drop (drop (drop (drop x))) := by
  simp only [d4, r4, d3, r3, d2, r2, d1, r1, fold_drop]
/-- Its greatest number. -/
theorem first_most : k0_pay22 places x (lowest x) = most (drop (drop (drop (drop x)))) := by
  rw [m4, first_left]
/-- The places rounds one to four take. -/
theorem first_marks (p : IVec S128x128 1) :
    k0_pay20 places x p (lowest x) = ori (ori (ori (ori p (hit x)) (hit (drop x))) (hit (drop (drop x)))) (hit (drop (drop (drop x)))) := by
  simp only [p4, r4, d3, r3, d2, r2, d1, r1, fold_drop]

/-- Rounds five to seven. -/
theorem second_left : k0_pay29 places x (most x) = drop (drop (drop x)) := rfl
/-- The place of the next round, along its row. -/
theorem second_lowestAlong : k0_pay30 places x (most x) = lowestAlong (drop (drop (drop x))) := rfl
/-- The places rounds five to seven take. -/
theorem second_marks (p : IVec S128x128 1) :
    k0_pay28 places p x (most x) = ori (ori (ori p (hit x)) (hit (drop x))) (hit (drop (drop x))) := rfl

/-- Rounds eight to eleven, each from the one before it. -/
theorem r8 : k0_pay31 places (lowestAlong x) = hit x := rfl
/-- What is left after a round. -/
theorem d8 (l : IVec S128x128 32) : k0_pay32 places x l = select (k0_pay31 places l) (broadcast S128x128 (Scalar.ofBits .f32 0xFF800000#32)) x := rfl
/-- The place a round takes. -/
theorem r9 (l : IVec S128x128 32) : k0_pay33 places x l = hit (k0_pay32 places x l) := rfl
/-- What is left after a round. -/
theorem d9 (l : IVec S128x128 32) : k0_pay34 places x l
    = select (k0_pay33 places x l) (broadcast S128x128 (Scalar.ofBits .f32 0xFF800000#32)) (k0_pay32 places x l) := rfl
/-- The place a round takes. -/
theorem r10 (l : IVec S128x128 32) : k0_pay35 places x l = hit (k0_pay34 places x l) := rfl
/-- What is left after a round. -/
theorem d10 (l : IVec S128x128 32) : k0_pay36 places x l
    = select (k0_pay35 places x l) (broadcast S128x128 (Scalar.ofBits .f32 0xFF800000#32)) (k0_pay34 places x l) := rfl
/-- The place a round takes. -/
theorem r11 (l : IVec S128x128 32) : k0_pay37 places x l = hit (k0_pay36 places x l) := rfl
/-- What is left after a round. -/
theorem d11 (l : IVec S128x128 32) : k0_pay39 places x l
    = select (k0_pay37 places x l) (broadcast S128x128 (Scalar.ofBits .f32 0xFF800000#32)) (k0_pay36 places x l) := rfl
/-- The greatest number of what is left after the eleventh round, along its row. -/
theorem a11 (l : IVec S128x128 32) : k0_pay40 places x l = along (k0_pay39 places x l) := rfl
/-- The places taken by the rounds so far. -/
theorem p11 (p : IVec S128x128 1) (l : IVec S128x128 32) : k0_pay38 places p x l
    = ori (ori (ori (ori p (k0_pay31 places l)) (k0_pay33 places x l)) (k0_pay35 places x l)) (k0_pay37 places x l) := rfl

/-- What is left after rounds eight to eleven. -/
theorem third_left : k0_pay39 places x (lowestAlong x) = drop (drop (drop (drop x))) := by
  simp only [d11, r11, d10, r10, d9, r9, d8, r8, fold_drop]
/-- Its greatest number, along its row. -/
theorem third_along : k0_pay40 places x (lowestAlong x) = along (drop (drop (drop (drop x)))) := by
  rw [a11, third_left]
/-- The places rounds eight to eleven take. -/
theorem third_marks (p : IVec S128x128 1) :
    k0_pay38 places p x (lowestAlong x) = ori (ori (ori (ori p (hit x)) (hit (drop x))) (hit (drop (drop x)))) (hit (drop (drop (drop x)))) := by
  simp only [p11, r11, d10, r10, d9, r9, d8, r8, fold_drop]

/-- Rounds twelve to fourteen, and the places the fifteenth takes. -/
theorem fourth_left : k0_pay47 places x (along x) = drop (drop (drop x)) := rfl
/-- The place of the fifteenth round. -/
theorem fourth_hit : k0_pay48 places x (along x) = hit (drop (drop (drop x))) := rfl
/-- The places rounds twelve to fourteen take. -/
theorem fourth_marks (p : IVec S128x128 1) :
    k0_pay46 places p x (along x) = ori (ori (ori p (hit x)) (hit (drop x))) (hit (drop (drop x))) := rfl

/-- The last two rounds, and the bias. -/
theorem last_bias (p : IVec S128x128 1) (cur : IVec S128x128 32) :
    k0_pay1 places cur p x (hit x) = bias (ori (ori p (hit x)) (hit (drop x))) cur := rfl

/-- The sixteen rounds together. -/
theorem rounds (cur : IVec S128x128 32) (a b c : FVec Ideal S128x128 .f32) (l : IVec S128x1 32) (t : FVec Ideal S128x1 .f32) (h : IVec S128x128 32)
    (g : FVec Ideal S128x128 .f32) (hl : l = lowest x) (ha : a = k0_pay21 places x l) (ht : t = k0_pay22 places x l)
    (hb : b = k0_pay29 places a t) (hh : h = k0_pay30 places a t) (hc : c = k0_pay39 places b h) (hg : g = k0_pay40 places b h) :
    k0_pay1 places cur (k0_pay46 places (k0_pay38 places (k0_pay28 places (k0_pay20 places x k0_pay11 l) a t) b h) c g)
      (k0_pay47 places c g) (k0_pay48 places c g) = bias (marks x 16) cur := by
  subst hl
  rw [first_left] at ha
  rw [first_most] at ht
  subst ht
  subst ha
  rw [second_left] at hb
  rw [second_lowestAlong] at hh
  subst hh
  subst hb
  rw [third_left] at hc
  rw [third_along] at hg
  subst hg
  subst hc
  rw [fourth_left, fourth_hit, fourth_marks, last_bias, first_marks, second_marks, third_marks]
  rfl

/-- What the body stores into its second block. -/
theorem out (i : grid0.Coords) (x0 : Vec Ideal S1x8x128x64 .bf16) (x1 : Vec Ideal S1x1x512x64 .bf16) (x2 : Vec Ideal S1x1x512x64 .bf16) (x3 : Vec Ideal S512x128 .bf16) :
    out0_5 i x0 x1 x2 x3 = View.canon [⟨r0_3, bias (marks (k0_pay55 i x0 x1 x2 x3) 16) (k0_pay9 (k0_pay53 i x0 x1 x2 x3) 64#32 (k0_pay54 i x0 x1 x2 x3) 0#32)⟩] := by
  unfold out0_5
  rw [show k0_pay51 i x0 x1 x2 x3 = places from rfl,
    rounds (k0_pay55 i x0 x1 x2 x3) _ (k0_pay57 i x0 x1 x2 x3) (k0_pay59 i x0 x1 x2 x3) (k0_pay61 i x0 x1 x2 x3) (k0_pay56 i x0 x1 x2 x3)
      (k0_pay58 i x0 x1 x2 x3) (k0_pay60 i x0 x1 x2 x3) (k0_pay62 i x0 x1 x2 x3) rfl rfl rfl rfl rfl rfl rfl]

end Cert.CmpIdeal.Bias

end
-- ==== Proof.BiasHit.lean ====
module

public import proofs.«01_k».proof.Proof.BiasRounds

@[expose] public section

set_option maxRecDepth 16384

noncomputable section

open Idealize.ShloMosaic Idealize.ShloMosaic.TcCoe Idealize.SL.Sem

namespace Cert.CmpIdeal.Bias

open Cert.CmpIdeal Cert.CmpIdeal.Gen

variable (x : FVec Ideal S128x128 .f32)

/-- The greatest number of a row, at an index. -/
theorem most_at (r : Fin 128) : most x (ix2 r 0) = Finset.univ.fold max ⊥ (fun j : Fin 128 => x (ix2 r j)) := by
  rw [← Words.negInf]
  pointwise [most]

/-- A place that holds the greatest number of its row, or 128. -/
theorem holders_at (r j : Fin 128) : holders x (ix2 r j) = if x (ix2 r j) = most x (ix2 r 0) then BitVec.ofNat 32 j.val else 128#32 := by
  pointwise [holders, along, places]

/-- The first place that holds the greatest number of a row, as a fold. -/
theorem lowest_at (r : Fin 128) : lowest x (ix2 r 0) = Finset.univ.fold IntOp.minsi 2147483647#32 (fun j : Fin 128 => holders x (ix2 r j)) := by
  pointwise [lowest]

/-- A place is taken when it is the first that holds the greatest number. -/
theorem hit_raw (r j : Fin 128) : hit x (ix2 r j) = IntOp.cmpi .eq (BitVec.ofNat 32 j.val) (lowest x (ix2 r 0)) := by
  change cmpi .eq places (broadcastTo S128x128 (lowest x) broadcasts_S128x1_S128x128) (ix2 r j) = _
  pointwise [places]

/-- A number of a row is its greatest one when every number of the row is at most it. -/
theorem is_most (r j : Fin 128) : x (ix2 r j) = most x (ix2 r 0) ↔ ∀ i, x (ix2 r i) ≤ x (ix2 r j) := by
  rw [most_at]
  constructor
  · intro h i
    rw [h]
    exact (Finset.le_fold_max _).mpr (Or.inr ⟨i, Finset.mem_univ i, le_rfl⟩)
  · intro h
    exact le_antisymm ((Finset.le_fold_max _).mpr (Or.inr ⟨j, Finset.mem_univ j, le_rfl⟩))
      ((Finset.fold_max_le _).mpr ⟨bot_le, fun i _ => h i⟩)

/-- The smaller of two words, as numbers. -/
theorem min_toInt (a b : BitVec 32) : (IntOp.minsi a b).toInt = min a.toInt b.toInt := by
  rw [IntOp.minsi, BitVec.slt_eq_decide]
  by_cases h : a.toInt < b.toInt
  · simp [h, h.le]
  · simp [h, not_lt.mp h]

/-- Every row has a place that a round takes. -/
theorem exists_hit (y : Fin 128 → EReal) : ∃ j, Rounds.Hit y j := by
  classical
  obtain ⟨j, -, hj⟩ := Finset.exists_max_image Finset.univ y ⟨0, Finset.mem_univ _⟩
  have hS : (Finset.univ.filter fun j => ∀ i, y i ≤ y j).Nonempty := ⟨j, by simpa using fun i => hj i (Finset.mem_univ i)⟩
  refine ⟨_, (Finset.mem_filter.mp (Finset.min'_mem _ hS)).2, fun i hi => lt_of_not_ge fun h => ?_⟩
  have hm := (Finset.mem_filter.mp (Finset.min'_mem _ hS)).2
  exact absurd (Finset.min'_le _ i (Finset.mem_filter.mpr ⟨Finset.mem_univ i, fun k => (hm k).trans h⟩)) (not_le.mpr hi)

/-- The word the body finds for a row is the place a round takes. -/
theorem lowest_of_hit (r j : Fin 128) (h : Rounds.Hit (fun j => x (ix2 r j)) j) : lowest x (ix2 r 0) = BitVec.ofNat 32 j.val := by
  apply BitVec.eq_of_toInt_eq
  rw [lowest_at, ← Finset.fold_hom (op' := min) (m := BitVec.toInt) min_toInt, Words.toInt_small j.val (by omega)]
  have hv : ∀ i : Fin 128, (holders x (ix2 r i)).toInt = if ∀ k, x (ix2 r k) ≤ x (ix2 r i) then (i.val : ℤ) else 128 := by
    intro i
    rw [holders_at]
    by_cases g : ∀ k, x (ix2 r k) ≤ x (ix2 r i)
    · rw [if_pos g, if_pos ((is_most x r i).mpr g), Words.toInt_small _ (by omega)]
    · rw [if_neg g, if_neg (fun e => g ((is_most x r i).mp e))]
      rfl
  simp only [hv]
  refine le_antisymm ((Finset.fold_min_le _).mpr (Or.inr ⟨j, Finset.mem_univ j, by rw [if_pos h.1]⟩)) ((Finset.le_fold_min _).mpr ⟨?_, fun i _ => ?_⟩)
  · have : (2147483647#32 : BitVec 32).toInt = 2147483647 := rfl
    rw [this]
    omega
  · split
    · rename_i g
      by_contra hlt
      exact absurd (g j) (not_le.mpr (h.2 i (by omega)))
    · omega

open Classical in
/-- The place of each row that one round takes. -/
theorem hit_at (r j : Fin 128) : hit x (ix2 r j) = BitVec.ofBool (decide (Rounds.Hit (fun j => x (ix2 r j)) j)) := by
  obtain ⟨j0, h0⟩ := exists_hit fun j => x (ix2 r j)
  rw [hit_raw, lowest_of_hit x r j0 h0]
  simp only [IntOp.cmpi]
  refine congrArg BitVec.ofBool ?_
  rw [Bool.eq_iff_iff, beq_iff_eq, decide_eq_true_iff]
  constructor
  · intro e
    have e' := congrArg BitVec.toInt e
    rw [Words.toInt_small _ (by omega), Words.toInt_small _ (by omega)] at e'
    rwa [show j = j0 from Fin.ext (by omega)]
  · intro h
    rw [h.unique h0]

open Classical in
/-- What is left of each row after some rounds. -/
theorem rest_at (k : ℕ) (r j : Fin 128) : rest x k (ix2 r j) = Rounds.left (fun j => x (ix2 r j)) k j := by
  induction k generalizing j with
  | zero => rfl
  | succ k ih =>
    have h := hit_at (rest x k) r j
    simp only [ih] at h
    have hd : drop (rest x k) (ix2 r j) = Scalar.select (hit (rest x k) (ix2 r j)) (Ideal.ofBits .f32 0xFF800000#32) (rest x k (ix2 r j)) := rfl
    rw [rest, hd, h, ih, WordCmp.select_decide, Words.negInf]
    rfl

open Classical in
/-- The places the first rounds take in each row. -/
theorem marks_at (k : ℕ) (r j : Fin 128) : marks x k (ix2 r j) = BitVec.ofBool (decide (Rounds.Taken (fun j => x (ix2 r j)) k j)) := by
  induction k with
  | zero => exact congrArg BitVec.ofBool (decide_eq_false (fun h : Rounds.Taken (fun j => x (ix2 r j)) 0 j => h)).symm
  | succ k ih =>
    have h := hit_at (rest x k) r j
    simp only [rest_at] at h
    have hd : marks x (k + 1) (ix2 r j) = marks x k (ix2 r j) ||| hit (rest x k) (ix2 r j) := rfl
    rw [hd, ih, h, Rounds.Taken, Bool.decide_or]
    cases decide (Rounds.Taken (fun j => x (ix2 r j)) k j) <;> cases decide (Rounds.Hit (Rounds.left (fun j => x (ix2 r j)) k) j) <;> rfl

end Cert.CmpIdeal.Bias

end
-- ==== Proof.BiasRefAt.lean ====
module

public import proofs.«01_k».proof.Proof.BiasRef

@[expose] public section

set_option maxRecDepth 16384

noncomputable section

open Idealize.ShloMosaic Idealize.ShloMosaic.TcCoe Idealize.SL.Sem

namespace Cert.CmpRef

open Cert.CmpRefIdeal Cert.CmpRefIdeal.Gen

/-- Signed division of words by 64, away from its corner. -/
theorem div64 (u : ArithUnit) (x : BitVec 32) : IntOp.divsi u x 64#32 = x.sdiv 64#32 := by
  rw [IntOp.divsi, if_neg (by simp [IntOp.SDivCorner])]

/-- The signed remainder of words by 64, away from its corner. -/
theorem rem64 (u : ArithUnit) (x : BitVec 32) : IntOp.remsi u x 64#32 = x.srem 64#32 := by
  rw [IntOp.remsi, if_neg (by simp [IntOp.SDivCorner])]

/-- The rounded-down quotient by 64 of a position's word, from the signs, the remainder and the quotient. -/
theorem quotient : ∀ t : Fin 8192,
    Scalar.select (IntOp.andi (IntOp.cmpi .ne (if BitVec.ofNat 32 t.val = 0 then 0 else if (BitVec.ofNat 32 t.val).msb = true then -1 else 1) 1#32)
        (IntOp.cmpi .ne ((BitVec.ofNat 32 t.val).srem 64#32) 0#32))
      (IntOp.subi ((BitVec.ofNat 32 t.val).sdiv 64#32) 1#32) ((BitVec.ofNat 32 t.val).sdiv 64#32) = BitVec.ofNat 32 (t.val / 64) := by
  decide +kernel

/-- The block a query position is in. -/
theorem current_at (t : Fin 8192) : current (ix2 t 0) = BitVec.ofNat 32 (t.val / 64) := by
  refine Eq.trans ?_ (quotient t)
  pointwise [current, times, same]
  rw [show id (constantI S_ 32 64#32) ix0 = 64#32 from rfl, div64, rem64]
  rfl

/-- Whether every query at a position takes a block, as the words are compared. -/
def forcedWord (t j : ℕ) : BitVec 1 :=
  IntOp.ori (IntOp.ori (IntOp.cmpi .eq (BitVec.ofNat 32 j) 0#32) (IntOp.cmpi .eq (BitVec.ofNat 32 j) (BitVec.ofNat 32 (t / 64))))
    (IntOp.cmpi .eq (BitVec.ofNat 32 j) (IntOp.subi (BitVec.ofNat 32 (t / 64)) 1#32))

/-- Whether a block does not start after a position, as the words are compared. -/
def begunWord (t j : ℕ) : BitVec 1 := IntOp.cmpi .sle (IntOp.muli (64#32) (BitVec.ofNat 32 j)) (BitVec.ofNat 32 t)

/-- The number of positions a compressed key and a block share, as a word. -/
def sharedWord (s j : ℕ) : BitVec 32 :=
  IntOp.maxsi 0#32 (IntOp.subi (IntOp.minsi (IntOp.addi (IntOp.muli (16#32) (BitVec.ofNat 32 s)) 32#32) (IntOp.addi (IntOp.muli (64#32) (BitVec.ofNat 32 j)) 64#32))
    (IntOp.maxsi (IntOp.muli (16#32) (BitVec.ofNat 32 s)) (IntOp.muli (64#32) (BitVec.ofNat 32 j))))

/-- The part of a compressed key's positions that lies in a block. -/
def part (s j : ℕ) : EReal := Ideal.div (FloatOps.sitofp (F := Ideal) .f32 (sharedWord s j)) (Ideal.ofBits .f32 0x42000000#32)

/-- A block's score at a query position, from its importance. -/
def scoreWord (t j : ℕ) (y : EReal) : EReal :=
  Scalar.select (forcedWord t j) (Ideal.ofBits .f32 0x42C80000#32) (Scalar.select (begunWord t j) y (Ideal.ofBits .f32 0xBF800000#32))

/-- The blocks every query takes, at an index. -/
theorem forced_at (t : Fin 8192) (j : Fin 128) : forced (ix2 t j) = forcedWord t.val j.val := by
  have h := current_at t
  pointwise [forced, rows, columns, blocks, same]
  rw [h]
  rfl

/-- The blocks that do not start after the query, at an index. -/
theorem begun_at (t : Fin 8192) (j : Fin 128) : begun (ix2 t j) = begunWord t.val j.val := by
  unfold begunWord
  pointwise [begun, rows, columns, starts, times]

/-- The overlaps at an index. -/
theorem overlap_at (s : Fin 511) (j : Fin 128) : overlap (ix2 s j) = part s.val j.val := by
  unfold part sharedWord
  pointwise [overlap, begins, starts]
  rfl

/-- The importance of a block for a query position. -/
theorem importance_at (p : FVec Ideal S4x2x8x8192x511 .f32) (b : Fin 4) (g : Fin 2) (t : Fin 8192) (j : Fin 128) :
    importance p (ix4 b g t j) = ∑ s : Fin 511, (∑ h : Fin 8, p (ix5 b g h t s)) * overlap (ix2 s j) := by
  pointwise [importance]

/-- The scores of the blocks, at an index. -/
theorem ranked_at (y : FVec Ideal S4x2x8192x128 .f32) (b : Fin 4) (g : Fin 2) (t : Fin 8192) (j : Fin 128) :
    ranked y (ix4 b g t j) = scoreWord t.val j.val (y (ix4 b g t j)) := by
  have h1 := forced_at t j
  have h2 := begun_at t j
  pointwise [ranked]
  rw [h1, h2]
  rfl

/-- The bias at an index, from the blocks taken. -/
theorem mark_at (p : IVec S4x2x8192x128 1) (b : Fin 4) (g : Fin 2) (t : Fin 8192) (j : Fin 128) :
    mark p (ix4 b g t j) = Scalar.select (IntOp.andi (p (ix4 b g t j)) (IntOp.cmpi .sle (BitVec.ofNat 32 j.val) (BitVec.ofNat 32 (t.val / 64)))) (0 : EReal) ⊥ := by
  have h := current_at t
  pointwise [mark, rows, columns, blocks]
  rw [h, Words.negInf]

end Cert.CmpRef

end
-- ==== Proof.BiasBlock.lean ====
module

public import proofs.«01_k».proof.Proof.Gen.CmpIdeal.Frame
public import proofs.«01_k».proof.Proof.BiasHit
public import proofs.«01_k».proof.Proof.BiasRefAt
public import proofs.«01_k».proof.Proof.CmpBlock
public import Idealize.ShloMosaic.Lib.Pointwise

@[expose] public section

set_option maxRecDepth 16384

noncomputable section

open Idealize.ShloMosaic Idealize.ShloMosaic.TcCoe Idealize.SL.Sem

namespace Cert.CmpIdeal.Bias

open Cert.CmpIdeal Cert.CmpIdeal.Gen

/-- The position of query `r` of block `i`, as a word. -/
theorem position (i r : ℕ) : IntOp.addi (Scalar.muli (BitVec.ofNat 32 i) 128#32) (BitVec.ofNat 32 r) = BitVec.ofNat 32 (128 * i + r) := by
  simp only [IntOp.addi, Scalar.muli, IntOp.muli]
  apply BitVec.eq_of_toNat_eq
  simp only [BitVec.toNat_add, BitVec.toNat_mul, BitVec.toNat_ofNat]
  omega

/-- The positions of a block's queries, at an index. -/
theorem positions_at (i : ℕ) (r j : Fin 128) : k0_pay7 (BitVec.ofNat 32 i) (ix2 r j) = BitVec.ofNat 32 (128 * i + r.val) := by
  rw [← position]
  pointwise [k0_pay7]

/-- The rounded-down quotient by 64 of a position's word, from the differences of the signs, the remainder and the quotient. -/
theorem quotient : ∀ t : Fin 8192,
    Scalar.select (IntOp.andi (IntOp.cmpi .ne (IntOp.subi (BitVec.setWidth 32 (IntOp.cmpi .sgt (BitVec.ofNat 32 t.val) 0#32))
          (BitVec.setWidth 32 (IntOp.cmpi .slt (BitVec.ofNat 32 t.val) 0#32))) 1#32)
        (IntOp.cmpi .ne ((BitVec.ofNat 32 t.val).srem 64#32) 0#32))
      (IntOp.subi ((BitVec.ofNat 32 t.val).sdiv 64#32) 1#32) ((BitVec.ofNat 32 t.val).sdiv 64#32) = BitVec.ofNat 32 (t.val / 64) := by
  decide +kernel

/-- The block a query is in, at an index. -/
theorem current_at (i : Fin 64) (r j : Fin 128) :
    k0_pay9 (k0_pay7 (BitVec.ofNat 32 i.val)) 64#32 (k0_pay8 (BitVec.ofNat 32 i.val)) 0#32 (ix2 r j) = BitVec.ofNat 32 ((128 * i.val + r.val) / 64) := by
  have h := positions_at i.val r j
  refine Eq.trans ?_ (quotient ⟨128 * i.val + r.val, by omega⟩)
  pointwise [k0_pay9, k0_pay8]
  rw [h, CmpRef.div64, CmpRef.rem64]
  rfl

/-- The scores of the blocks from their importance, at an index. -/
theorem scores_at (y : FVec Ideal S128x128 .f32) (i : Fin 64) (r j : Fin 128) :
    k0_pay10 (F := Ideal) y (k0_pay7 (BitVec.ofNat 32 i.val)) places 64#32 (k0_pay8 (BitVec.ofNat 32 i.val)) 0#32 (ix2 r j)
      = CmpRef.scoreWord (128 * i.val + r.val) j.val (y (ix2 r j)) := by
  have h := positions_at i.val r j
  have hc := current_at i r j
  pointwise [k0_pay10, places]
  rw [h, hc]
  rw [CmpRef.scoreWord, CmpRef.forcedWord, CmpRef.begunWord]
  rw [show IntOp.muli (64#32) (BitVec.ofNat 32 j.val) = IntOp.muli (BitVec.ofNat 32 j.val) 64#32 from BitVec.mul_comm _ _]

/-- The shares of a group's heads, summed. -/
def summed (w : FVec Ideal S8x128x512 .f32) (l : FVec Ideal S8x128x1 .f32) (r : Fin 128) (s : Fin 512) : EReal :=
  ∑ h : Fin 8, k0_pay4 (F := Ideal) w l (ix3 h r s)

/-- The importance of a block, at an index: the shares times the overlaps, and what the shares lost in the narrower format times the overlaps. -/
theorem importance_at (w : FVec Ideal S8x128x512 .f32) (l : FVec Ideal S8x128x1 .f32) (o : FVec Ideal S512x128 .bf16) (r j : Fin 128) :
    k0_pay6 (F := Ideal) w l o o (ix2 r j)
      = ∑ s : Fin 512, summed w l r s * o (ix2 s j) + ∑ s : Fin 512, (summed w l r s - summed w l r s) * o (ix2 s j) := by
  unfold summed
  pointwise [k0_pay6]

/-- The bias at an index. -/
theorem bias_at (p : IVec S128x128 1) (cur : IVec S128x128 32) (r j : Fin 128) :
    bias p cur (ix4 0 0 r j) = Scalar.select (IntOp.andi (p (ix2 r j)) (IntOp.cmpi .sle (BitVec.ofNat 32 j.val) (cur (ix2 r j)))) (0 : EReal) ⊥ := by
  pointwise [bias, places]
  rw [Block.mask_const]

end Cert.CmpIdeal.Bias

end
-- ==== Proof.BiasOverlap.lean ====
module

public import proofs.«01_k».proof.Proof.Gen.CmpIdeal.Value
public import proofs.«01_k».proof.Proof.BiasRefAt
public import Idealize.ShloMosaic.Lib.StableHlo.ReadAt
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.CmpIdeal.Bias

open Cert.CmpIdeal Cert.CmpIdeal.Gen

variable (m : (ℓ : Loc nD τ sig) → Buf (Elt Ideal) ℓ)

/-- The overlaps the launch hands the kernel, at an index: the part of a compressed key in a block, and 0 for the padding row. -/
theorem overlaps (c : Dev nD) (s : Fin 512) (j : Fin 128) :
    V m c main_v30 (ix2 s j) = Scalar.select (IntOp.cmpi .slt (BitVec.ofNat 32 s.val) 511#32) (CmpRef.part s.val j.val) 0 := by
  unfold V CmpRef.part CmpRef.sharedWord
  after_reads_at
  rw [show (id (constant (F := Ideal) S_ .f32 0#32) ix0 : EReal) = 0 from by rw [id]; pointwise]
  rfl

end Cert.CmpIdeal.Bias

end
-- ==== Proof.TopPlaces.lean ====
module

public import proofs.«01_k».proof.Proof.Rounds
public import Idealize.ShloMosaic.Lib.Pointwise

@[expose] public section

set_option maxRecDepth 16384

noncomputable section

open Idealize.ShloMosaic Idealize.ShloMosaic.TcCoe

namespace Rounds

/-- A slice along the last of four axes that begins at the origin, at an index. -/
theorem slice_last {n0 n1 n2 n3 k : ℕ} (hk : k ≤ n3) (hs : (⟨4, ![n0, n1, n2, n3]⟩ : Shape).Slices (fun _ => 0) (⟨4, ![n0, n1, n2, k]⟩ : Shape))
    (x : IVec ⟨4, ![n0, n1, n2, n3]⟩ 32) (a : Fin n0) (b : Fin n1) (c : Fin n2) (n : Fin k) :
    extractStridedSlice ⟨4, ![n0, n1, n2, k]⟩ (fun _ => 0) x hs (ix4 a b c n) = x (ix4 a b c (n.castLE hk)) := by
  unfold extractStridedSlice
  refine congrArg x ?_
  funext d
  match d with
  | 0 => exact Fin.ext (Nat.zero_add _)
  | 1 => exact Fin.ext (Nat.zero_add _)
  | 2 => exact Fin.ext (Nat.zero_add _)
  | 3 => exact Fin.ext (Nat.zero_add _)

/-- An index along the last of four axes. -/
theorem along_last {n0 n1 n2 n3 : ℕ} (a : Fin n0) (b : Fin n1) (c : Fin n2) (n j : Fin n3) :
    Shape.Idx.along (s := ⟨4, ![n0, n1, n2, n3]⟩) (ix4 a b c n) (3 : Fin 4) j = ix4 a b c j := by
  funext d
  match d with
  | 0 => rfl
  | 1 => rfl
  | 2 => rfl
  | 3 => rfl

/-- The second operand of a sort of two along the last of four axes. -/
theorem sort_second {n0 n1 n2 n3 : ℕ} (cmp : EReal × BitVec 32 → EReal × BitVec 32 → BitVec 1) (x : FVec Ideal ⟨4, ![n0, n1, n2, n3]⟩ .f32)
    (z : IVec ⟨4, ![n0, n1, n2, n3]⟩ 32) (a : Fin n0) (b : Fin n1) (c : Fin n2) (n : Fin n3) :
    (Host.sort2 ⟨4, ![n0, n1, n2, n3]⟩ 3 cmp x z).2 (ix4 a b c n)
      = z (ix4 a b c (sortedFrom (fun k k' : Fin n3 => cmp (x (ix4 a b c k), z (ix4 a b c k)) (x (ix4 a b c k'), z (ix4 a b c k')) == 1#1) n)) := by
  have h : (Host.sort2 ⟨4, ![n0, n1, n2, n3]⟩ 3 cmp x z).2 (ix4 a b c n)
      = z (Shape.Idx.along (s := ⟨4, ![n0, n1, n2, n3]⟩) (ix4 a b c n) (3 : Fin 4) (sortedFrom (fun k k' : Fin n3 =>
          cmp (x (Shape.Idx.along (s := ⟨4, ![n0, n1, n2, n3]⟩) (ix4 a b c n) (3 : Fin 4) k), z (Shape.Idx.along (s := ⟨4, ![n0, n1, n2, n3]⟩) (ix4 a b c n) (3 : Fin 4) k))
            (x (Shape.Idx.along (s := ⟨4, ![n0, n1, n2, n3]⟩) (ix4 a b c n) (3 : Fin 4) k'), z (Shape.Idx.along (s := ⟨4, ![n0, n1, n2, n3]⟩) (ix4 a b c n) (3 : Fin 4) k')) == 1#1) n)) := by
    unfold Host.sort2
    rw [dif_pos (show 3 < (⟨4, ![n0, n1, n2, n3]⟩ : Shape).rank from (by decide : 3 < 4))]
    rfl
  rw [h]
  simp only [along_last]
  exact congrArg z (along_last a b c n _)

/-- The places of the greatest numbers along the last of four axes, at an index. Stated for any sizes. -/
theorem top_places {n0 n1 n2 n3 k : ℕ} (hk : k ≤ n3) (hs : (⟨4, ![n0, n1, n2, n3]⟩ : Shape).Slices (fun _ => 0) (⟨4, ![n0, n1, n2, k]⟩ : Shape))
    (y : FVec Ideal ⟨4, ![n0, n1, n2, n3]⟩ .f32) (a : Fin n0) (b : Fin n1) (c : Fin n2) (n : Fin k) :
    (Host.topK ⟨4, ![n0, n1, n2, k]⟩ 3 (FloatOps.cmpfTotal (F := Ideal) (φ := .f32) .gt) y hs).2 (ix4 a b c n)
      = BitVec.ofNat 32 (order (fun j : Fin n3 => y (ix4 a b c j)) (n.castLE hk)).val := by
  unfold Host.topK
  refine (slice_last hk hs (Host.sort2 ⟨4, ![n0, n1, n2, n3]⟩ 3 (fun l r => FloatOps.cmpfTotal (F := Ideal) (φ := .f32) .gt l.1 r.1) y
    (fun i => if hd : 3 < (⟨4, ![n0, n1, n2, n3]⟩ : Shape).rank then iotaInDim ⟨4, ![n0, n1, n2, n3]⟩ 32 ⟨3, hd⟩ i else 0#32)).2 a b c n).trans
    ((sort_second _ y _ a b c _).trans ?_)
  have hc : (fun k k' : Fin n3 => FloatOps.cmpfTotal (F := Ideal) (φ := .f32) .gt (y (ix4 a b c k)) (y (ix4 a b c k')) == 1#1)
      = fun i j : Fin n3 => decide (y (ix4 a b c j) < y (ix4 a b c i)) := by
    funext i j
    by_cases h : y (ix4 a b c j) < y (ix4 a b c i)
    · simp [FloatOps.cmpfTotal, Ideal.cmpTotal, Ideal.cmp, CmpDirection.ordered, h]
    · simp [FloatOps.cmpfTotal, Ideal.cmpTotal, Ideal.cmp, CmpDirection.ordered, h]
  rw [order, ← hc]
  rfl

/-- A disjunction along the last of five axes, at an index. Stated for any sizes. -/
theorem or_last {n0 n1 n2 n3 n4 : ℕ} (h : (⟨5, ![n0, n1, n2, n3, n4]⟩ : Shape).ReducesTo [4] (⟨4, ![n0, n1, n2, n3]⟩ : Shape))
    (hu : 0 < (⟨0, ![]⟩ : Shape).numel) (y : IVec ⟨5, ![n0, n1, n2, n3, n4]⟩ 1) (a : Fin n0) (b : Fin n1) (c : Fin n2) (d : Fin n3) :
    Host.reduce IntOp.ori y (constantI ⟨0, ![]⟩ 1 0#1) h hu (ix4 a b c d) = Finset.univ.fold IntOp.ori 0#1 (fun s => y (ix5 a b c d s)) := by
  exact (Host.reduce_eq_fold IntOp.ori y _ h hu _).trans (h.fold_fiber_r5_a4 _ IntOp.ori _ y)

/-- A disjunction of comparisons folded up. -/
theorem fold_or {ι : Type} [DecidableEq ι] (S : Finset ι) (f : ι → BitVec 1) :
    S.fold IntOp.ori 0#1 f = 1#1 ↔ ∃ n ∈ S, f n = 1#1 := by
  induction S using Finset.induction_on with
  | empty => simp
  | insert a S ha ih =>
    rw [Finset.fold_insert ha, Finset.exists_mem_insert, ← ih]
    generalize f a = p
    generalize S.fold IntOp.ori 0#1 f = q
    revert p q
    decide

end Rounds

end
-- ==== Proof.BiasPicked.lean ====
module

public import proofs.«01_k».proof.Proof.BiasRef
public import proofs.«01_k».proof.Proof.TopPlaces

@[expose] public section

set_option maxRecDepth 16384

noncomputable section

open Idealize.ShloMosaic Idealize.ShloMosaic.TcCoe Idealize.SL.Sem

namespace Cert.CmpRef

open Cert.CmpRefIdeal Cert.CmpRefIdeal.Gen

/-- The sixteen blocks of the greatest scores, at an index. -/
theorem best_at (y : FVec Ideal S4x2x8192x128 .f32) (b : Fin 4) (g : Fin 2) (t : Fin 8192) (n : Fin 16) :
    best y (ix4 b g t n) = BitVec.ofNat 32 (Rounds.order (fun j : Fin 128 => y (ix4 b g t j)) (n.castLE (by decide))).val :=
  Rounds.top_places (k := 16) (by decide) _ y b g t n

/-- A block is among some blocks, as a fold of comparisons. -/
theorem picked_raw (s : IVec S4x2x8192x16 32) (b : Fin 4) (g : Fin 2) (t : Fin 8192) (j : Fin 128) :
    picked s (ix4 b g t j) = Finset.univ.fold IntOp.ori 0#1 (fun n : Fin 16 => IntOp.cmpi .eq (s (ix4 b g t n)) (BitVec.ofNat 32 j.val)) := by
  unfold picked
  refine (Rounds.or_last _ _ _ b g t j).trans ?_
  refine congrArg (Finset.univ.fold IntOp.ori 0#1) (funext fun n => ?_)
  pointwise

/-- A block is picked when it is one of the sixteen. -/
theorem picked_at (y : FVec Ideal S4x2x8192x128 .f32) (b : Fin 4) (g : Fin 2) (t : Fin 8192) (j : Fin 128) :
    picked (best y) (ix4 b g t j) = 1#1 ↔ ∃ n : Fin 128, n.val < 16 ∧ Rounds.order (fun j : Fin 128 => y (ix4 b g t j)) n = j := by
  rw [picked_raw, Rounds.fold_or]
  simp only [best_at, Finset.mem_univ, true_and]
  have hw : ∀ i : Fin 128, IntOp.cmpi .eq (BitVec.ofNat 32 i.val) (BitVec.ofNat 32 j.val) = 1#1 ↔ i = j := by
    revert j
    decide +kernel
  simp only [hw]
  constructor
  · rintro ⟨n, e⟩
    exact ⟨n.castLE (by decide), n.isLt, e⟩
  · rintro ⟨n, hn, e⟩
    exact ⟨⟨n.val, hn⟩, e⟩

end Cert.CmpRef

end
-- ==== Proof.Shares.lean ====
module

public import proofs.«01_k».proof.Proof.Softmax

@[expose] public section

noncomputable section

open Idealize.ShloMosaic

namespace Cert.Softmax

/-- An exponential is not negative. -/
theorem exp_nonneg (x : EReal) : 0 ≤ Ideal.exp x := by
  induction x with
  | bot => exact le_refl _
  | top => exact le_top
  | coe r => exact EReal.coe_nonneg.mpr (Real.exp_pos r).le

/-- A share of the reference: a weight over the sum of the weights, 0 off the mask. -/
def share {κ : Type} [Fintype κ] (b : κ → Prop) [DecidablePred b] (y : κ → EReal) (k : κ) : EReal :=
  Ideal.div (weight b y k) (∑ k, weight b y k) * (if b k then 1 else 0)

/-- A key off the mask has share 0. -/
theorem share_off {κ : Type} [Fintype κ] (b : κ → Prop) [DecidablePred b] (y : κ → EReal) (k : κ) (hb : ¬ b k) : share b y k = 0 := by
  rw [share, if_neg hb, mul_zero]

/-- Where the scores under the mask are real, every share is real. -/
theorem share_real {κ : Type} [Fintype κ] (b : κ → Prop) [DecidablePred b] (y : κ → EReal)
    (hy : ∀ k, b k → ∃ r : ℝ, y k = (r : EReal)) (k : κ) : ∃ r : ℝ, share b y k = (r : EReal) := by
  by_cases hb : b k
  · obtain ⟨c, hc, hs⟩ := sum_weight_pos b y hy ⟨k, hb⟩
    have h0 : 0 ≤ weight b y k := exp_nonneg _
    have h1 : weight b y k ≤ (c : EReal) := by
      rw [← hs]
      exact Finset.single_le_sum (f := weight b y) (fun i _ => exp_nonneg _) (Finset.mem_univ k)
    obtain ⟨w, hw⟩ : ∃ w : ℝ, weight b y k = (w : EReal) := by
      refine ⟨(weight b y k).toReal, (EReal.coe_toReal ?_ ?_).symm⟩
      · exact ne_top_of_le_ne_top (EReal.coe_ne_top c) h1
      · exact ne_bot_of_le_ne_bot EReal.zero_ne_bot h0
    rw [share, if_pos hb, mul_one, hs, hw, Ideal.div_coe hc.ne']
    exact ⟨_, (EReal.coe_mul _ _).symm⟩
  · exact ⟨0, by rw [share_off b y k hb, EReal.coe_zero]⟩

/-- A weight the kernel scales by the reciprocal of the sum where that is positive, by 0 where it is not, is the reference's share of the
    key it stands for. -/
theorem scaled_share {ι κ : Type} [Fintype ι] [Fintype κ] {a : ι → Prop} {b : κ → Prop} [DecidablePred a] [DecidablePred b] {e : ι → κ}
    (he : Same a b e) (x : ι → EReal) (y : κ → EReal) (hxy : ∀ i, a i → x i = y (e i))
    (hy : ∀ k, b k → ∃ r : ℝ, y k = (r : EReal)) (i : ι) (hi : a i) :
    (if a i then weight a x i else 0)
        * (if 0 < ∑ i, (if a i then weight a x i else 0) then Ideal.div 1 (∑ i, if a i then weight a x i else 0) else 0)
      = share b y (e i) := by
  have ht := top_same he x y hxy
  have hw : ∀ i, a i → weight a x i = weight b y (e i) := fun i hi => by
    rw [weight, weight, ht, masked, masked, if_pos hi, if_pos (he.maps i hi), hxy i hi]
  rw [sum_same he (fun i => if a i then weight a x i else 0) (weight b y) (fun i hi => if_neg hi) (weight_off b y)
      (fun i hi => (if_pos hi).trans (hw i hi))]
  obtain ⟨c, hc, hs⟩ := sum_weight_pos b y hy ⟨e i, he.maps i hi⟩
  rw [share, hs, if_pos hi, if_pos (he.maps i hi), if_pos (by exact_mod_cast hc), hw i hi, Ideal.div_coe hc.ne',
    Ideal.div_coe hc.ne', one_mul, mul_one]

end Cert.Softmax

end
-- ==== Proof.BiasReal.lean ====
module

public import proofs.«01_k».proof.Proof.BiasRefAt
public import proofs.«01_k».proof.Proof.CmpFinite
public import proofs.«01_k».proof.Proof.Shares

@[expose] public section

set_option maxRecDepth 16384

noncomputable section

open Idealize.ShloMosaic Idealize.ShloMosaic.TcCoe Idealize.SL.Sem

namespace Cert.CmpRef

open Cert.CmpRefIdeal Cert.CmpRefIdeal.Gen

/-- The pattern of 32. -/
theorem thirtyTwo : Ideal.ofBits .f32 0x42000000#32 = ((32 : ℝ) : EReal) := by
  simp [Ideal.ofBits, Ideal.ieee]
  rw [← EReal.coe_mul]
  norm_num

/-- The pattern of 100. -/
theorem hundred : Ideal.ofBits .f32 0x42C80000#32 = ((100 : ℝ) : EReal) := by
  simp [Ideal.ofBits, Ideal.ieee]
  rw [← EReal.coe_mul]
  norm_num

/-- The pattern of −1. -/
theorem minusOne : Ideal.ofBits .f32 0xBF800000#32 = ((-1 : ℝ) : EReal) := by
  simp [Ideal.ofBits, Ideal.ieee]
  rw [← EReal.coe_mul]
  norm_num

/-- The part of a compressed key in a block is real. -/
theorem part_real (s j : ℕ) : ∃ r : ℝ, part s j = (r : EReal) := by
  rw [part, thirtyTwo, Ideal.div_coe (by norm_num)]
  exact ⟨_, (EReal.coe_mul _ _).symm⟩

/-- A finite sum of reals is real. -/
theorem sum_real {ι : Type} [Fintype ι] (f : ι → EReal) (h : ∀ i, ∃ r : ℝ, f i = (r : EReal)) : ∃ r : ℝ, ∑ i, f i = (r : EReal) := by
  choose g hg using h
  exact ⟨∑ i, g i, (Finset.sum_congr rfl fun i _ => hg i).trans (Softmax.coe_sum _ _)⟩

/-- A block's score is above minus infinity where its importance is real. -/
theorem score_above (t j : ℕ) (y : EReal) (hy : ∃ r : ℝ, y = (r : EReal)) : ⊥ < scoreWord t j y := by
  obtain ⟨r, rfl⟩ := hy
  rw [scoreWord, hundred, minusOne]
  unfold Scalar.select
  split
  · exact EReal.bot_lt_coe _
  · split
    · exact EReal.bot_lt_coe _
    · exact EReal.bot_lt_coe _

/-- The reference's shares. -/
def shares (q : FVec Ideal S4x16x8192x64 .bf16) (k : FVec Ideal S4x2x512x64 .bf16) : FVec Ideal S4x2x8x8192x511 .f32 :=
  prob (weight (masked (score q k)))

/-- A share of the reference at an index. -/
theorem shares_at (q : FVec Ideal S4x16x8192x64 .bf16) (k : FVec Ideal S4x2x512x64 .bf16) (b : Fin 4) (g : Fin 2) (h : Fin 8) (t : Fin 8192) (s : Fin 511) :
    shares q k (ix5 b g h t s) = Softmax.share (seen t) (fun s => score q k (ix5 b g h t s)) s := by
  rw [shares, prob_at, Softmax.share]
  simp only [weight_at]

/-- A share of the reference is real. -/
theorem shares_real (q : FVec Ideal S4x16x8192x64 .bf16) (k v : FVec Ideal S4x2x512x64 .bf16)
    (hpre : Cert.Pre_finite_cmp.fn (F := Ideal) q k v = fun _ => 1#1) (b : Fin 4) (g : Fin 2) (h : Fin 8) (t : Fin 8192) (s : Fin 511) :
    ∃ r : ℝ, shares q k (ix5 b g h t s) = (r : EReal) := by
  rw [shares_at]
  exact Softmax.share_real _ _ (fun s _ => CmpFinite.score_real q k v hpre b g h t s) s

/-- The importance of a block is real. -/
theorem importance_real (q : FVec Ideal S4x16x8192x64 .bf16) (k v : FVec Ideal S4x2x512x64 .bf16)
    (hpre : Cert.Pre_finite_cmp.fn (F := Ideal) q k v = fun _ => 1#1) (b : Fin 4) (g : Fin 2) (t : Fin 8192) (j : Fin 128) :
    ∃ r : ℝ, importance (shares q k) (ix4 b g t j) = (r : EReal) := by
  rw [importance_at]
  refine sum_real _ fun s => ?_
  obtain ⟨x, hx⟩ := sum_real (fun h : Fin 8 => shares q k (ix5 b g h t s)) fun h => shares_real q k v hpre b g h t s
  obtain ⟨y, hy⟩ := part_real s.val j.val
  rw [hx, overlap_at, hy]
  exact ⟨_, (EReal.coe_mul _ _).symm⟩

end Cert.CmpRef

end
-- ==== Proof.BiasValue.lean ====
module

public import proofs.«01_k».proof.Proof.CmpValue
public import proofs.«01_k».proof.Proof.BiasBlock
public import proofs.«01_k».proof.Proof.BiasOverlap
public import proofs.«01_k».proof.Proof.BiasPicked
public import proofs.«01_k».proof.Proof.BiasReal

@[expose] public section

set_option maxRecDepth 16384

noncomputable section

open Idealize.ShloMosaic Idealize.ShloMosaic.TcCoe Idealize.SL.Sem
open Idealize.ShloMosaic.Pipeline (Dat)
open Classical

namespace Cert.CmpIdeal.Bias

open Cert.CmpIdeal Cert.CmpIdeal.Gen

variable (m : (ℓ : Loc nD τ sig) → Buf (Elt Ideal) ℓ)

/-- The block index of the overlaps and of the bias at a grid point. -/
theorem idx : ∀ t : Fin cfg0.N,
    win0_3.index t = ![0, 0]
    ∧ win0_5.index t = ![(grid0.coords t 0).val, (grid0.coords t 1).val, (grid0.coords t 2).val, 0] :=
  (by decide +kernel : ∀ t : Fin grid0.N, _)

/-- The block of overlaps at an index of it. -/
theorem overlap_block (c : Dev nD) (t : Fin cfg0.N) (s : Fin 512) (j : Fin 128) :
    iblk m c 3 t (ix2 s j) = Scalar.select (IntOp.cmpi .slt (BitVec.ofNat 32 s.val) 511#32) (CmpRef.part s.val j.val) 0 := by
  rw [← overlaps m c s j]
  blk_ext [iblk, idx t]

/-- The weights the body computes at a grid point. -/
def weights (c : Dev nD) (t : Fin cfg0.N) : FVec Ideal S8x128x512 .f32 := k0_pay2 (F := Ideal) (grid0.coords t) (iblk m c 0 t) (iblk m c 1 t)

/-- Their sums. -/
def totals (c : Dev nD) (t : Fin cfg0.N) : FVec Ideal S8x128x1 .f32 := k0_pay3 (F := Ideal) (grid0.coords t) (iblk m c 0 t) (iblk m c 1 t)

/-- The reference's shares of the argument arrays. -/
def shares (c : Dev nD) : FVec Ideal Cert.CmpRefIdeal.S4x2x8x8192x511 .f32 :=
  CmpRef.shares (m ((c : Thread nD τ).loc main_arg0)) (m ((c : Thread nD τ).loc main_arg1))

/-- The precondition on the argument arrays. -/
def Finite (c : Dev nD) : Prop := Cert.Pre_finite_cmp.fn (F := Ideal) (m ((c : Thread nD τ).loc main_arg0)) (m ((c : Thread nD τ).loc main_arg1))
  (m ((c : Thread nD τ).loc main_arg2)) = fun _ => 1#1

/-- A weight the body scales is the reference's share, and 0 for the padding row. -/
theorem share_point (c : Dev nD) (hpre : Finite m c) (t : Fin cfg0.N) (b : Fin 4) (g : Fin 2) (i : Fin 64) (hb : (grid0.coords t 0).val = b.val)
    (hg : (grid0.coords t 1).val = g.val) (hi : (grid0.coords t 2).val = i.val) (h : Fin 8) (r : Fin 128) (s : Fin 512) :
    k0_pay4 (F := Ideal) (weights m c t) (totals m c t) (ix3 h r s)
      = if hs : s.val < 511 then shares m c (ix5 b g h (⟨128 * i.val + r.val, by omega⟩ : Fin 8192) ⟨s.val, hs⟩) else 0 := by
  unfold weights totals
  simp only [Block.scaled, Block.total, Block.weights]
  rw [hi]
  by_cases hs : Block.seen i.val r s
  · refine (Softmax.scaled_share (Compressed.same i r) _ (fun s => CmpRef.score (m ((c : Thread nD τ).loc main_arg0)) (m ((c : Thread nD τ).loc main_arg1))
      (ix5 b g h (⟨128 * i.val + r.val, by omega⟩ : Fin 8192) s)) (fun j hj => ?_) (fun s _ => CmpFinite.score_real _ _ _ hpre b g h _ s) s hs).trans ?_
    · rw [dif_pos hj.2]
      refine Eq.trans ?_ (CmpRef.score_at _ _ b g h _ _).symm
      exact Finset.sum_congr rfl fun e _ => Ideal.mul_congr (Compressed.queries m c t b g i hb hg hi h r e) (Compressed.keys m c t b g hb hg j e)
    · rw [dif_pos hs.2, dif_pos hs.2]
      exact (CmpRef.shares_at _ _ b g h _ _).symm
  · rw [if_neg hs, zero_mul]
    by_cases h511 : s.val < 511
    · rw [dif_pos h511]
      exact ((CmpRef.shares_at _ _ b g h _ _).trans (Softmax.share_off _ _ _
        (show ¬ CmpRef.seen (⟨128 * i.val + r.val, by omega⟩ : Fin 8192) ⟨s.val, h511⟩ from fun hn => hs ⟨hn, h511⟩))).symm
    · rw [dif_neg h511]

/-- The summed shares of a group are the reference's, and 0 for the padding row. -/
theorem summed_point (c : Dev nD) (hpre : Finite m c) (t : Fin cfg0.N) (b : Fin 4) (g : Fin 2) (i : Fin 64) (hb : (grid0.coords t 0).val = b.val)
    (hg : (grid0.coords t 1).val = g.val) (hi : (grid0.coords t 2).val = i.val) (r : Fin 128) (s : Fin 512) :
    summed (weights m c t) (totals m c t) r s
      = if hs : s.val < 511 then ∑ h : Fin 8, shares m c (ix5 b g h (⟨128 * i.val + r.val, by omega⟩ : Fin 8192) ⟨s.val, hs⟩) else 0 := by
  unfold summed
  simp only [share_point m c hpre t b g i hb hg hi]
  by_cases hs : s.val < 511
  · simp only [dif_pos hs]
  · simp only [dif_neg hs, Finset.sum_const_zero]

/-- The narrower format loses nothing of a summed share over the reals. -/
theorem summed_rest (c : Dev nD) (hpre : Finite m c) (t : Fin cfg0.N) (b : Fin 4) (g : Fin 2) (i : Fin 64) (hb : (grid0.coords t 0).val = b.val)
    (hg : (grid0.coords t 1).val = g.val) (hi : (grid0.coords t 2).val = i.val) (r : Fin 128) (s : Fin 512) :
    summed (weights m c t) (totals m c t) r s - summed (weights m c t) (totals m c t) r s = 0 := by
  obtain ⟨x, hx⟩ : ∃ x : ℝ, summed (weights m c t) (totals m c t) r s = (x : EReal) := by
    rw [summed_point m c hpre t b g i hb hg hi]
    by_cases hs : s.val < 511
    · rw [dif_pos hs]
      exact CmpRef.sum_real _ fun h => CmpRef.shares_real _ _ _ hpre b g h _ _
    · exact ⟨0, by rw [dif_neg hs, EReal.coe_zero]⟩
  rw [hx, ← EReal.coe_sub, sub_self, EReal.coe_zero]

/-- The importance the body computes is the reference's. -/
theorem importance_point (c : Dev nD) (hpre : Finite m c) (t : Fin cfg0.N) (b : Fin 4) (g : Fin 2) (i : Fin 64) (hb : (grid0.coords t 0).val = b.val)
    (hg : (grid0.coords t 1).val = g.val) (hi : (grid0.coords t 2).val = i.val) (r j : Fin 128) :
    k0_pay6 (F := Ideal) (weights m c t) (totals m c t) (iblk m c 3 t) (iblk m c 3 t) (ix2 r j)
      = CmpRef.importance (shares m c) (ix4 b g (⟨128 * i.val + r.val, by omega⟩ : Fin 8192) j) := by
  refine (importance_at _ _ _ r j).trans ?_
  rw [CmpRef.importance_at]
  rw [Finset.sum_eq_zero (s := Finset.univ) (f := fun s : Fin 512 => (summed (weights m c t) (totals m c t) r s
    - summed (weights m c t) (totals m c t) r s) * iblk m c 3 t (ix2 s j)) fun s _ => by rw [summed_rest m c hpre t b g i hb hg hi, zero_mul], add_zero]
  simp only [summed_point m c hpre t b g i hb hg hi, overlap_block m c t]
  refine (Fin.sum_univ_castSucc (M := EReal) (n := 511) _).trans ?_
  rw [dif_neg (show ¬ (Fin.last 511).val < 511 from by decide), zero_mul, add_zero]
  refine Finset.sum_congr rfl fun s _ => ?_
  have h1 : IntOp.cmpi .slt (BitVec.ofNat 32 s.castSucc.val) 511#32 = 1#1 := by
    have h2 := Words.toInt_small s.val (by omega)
    have h3 := Words.toInt_small 511 (by omega)
    simp only [IntOp.cmpi, BitVec.slt_eq_decide, Fin.val_castSucc, h2, h3]
    rw [decide_eq_true (by omega)]
    rfl
  rw [dif_pos (show s.castSucc.val < 511 from s.isLt), h1, CmpRef.overlap_at]
  rfl

/-- A bit that is set exactly where a statement holds. -/
theorem bit_eq (x : BitVec 1) (p : Prop) (h : x = 1#1 ↔ p) : BitVec.ofBool (decide p) = x := by
  by_cases hp : p
  · rw [h.mpr hp, decide_eq_true hp]
    rfl
  · rw [decide_eq_false hp]
    have h0 : ∀ x : BitVec 1, x ≠ 1#1 → BitVec.ofBool false = x := by decide
    exact h0 x fun e => hp (h.mp e)

/-- What the body stores of the bias at an index of its block is the reference's at the array index where the block puts it. -/
theorem point (c : Dev nD) (hpre : Finite m c) (t : Fin cfg0.N) (b : Fin 4) (g : Fin 2) (i : Fin 64) (hb : (grid0.coords t 0).val = b.val)
    (hg : (grid0.coords t 1).val = g.val) (hi : (grid0.coords t 2).val = i.val) (r j : Fin 128) :
    bias (marks (k0_pay10 (F := Ideal) (k0_pay6 (F := Ideal) (weights m c t) (totals m c t) (iblk m c 3 t) (iblk m c 3 t))
          (k0_pay7 (BitVec.ofNat 32 (grid0.coords t 2).val)) places 64#32 (k0_pay8 (BitVec.ofNat 32 (grid0.coords t 2).val)) 0#32) 16)
        (k0_pay9 (k0_pay7 (BitVec.ofNat 32 (grid0.coords t 2).val)) 64#32 (k0_pay8 (BitVec.ofNat 32 (grid0.coords t 2).val)) 0#32) (ix4 0 0 r j)
      = CmpRef.selection (m ((c : Thread nD τ).loc main_arg0)) (m ((c : Thread nD τ).loc main_arg1))
          (ix4 b g (⟨128 * i.val + r.val, by omega⟩ : Fin 8192) j) := by
  rw [hi]
  refine (bias_at _ _ r j).trans ?_
  refine Eq.trans ?_ (CmpRef.mark_at (CmpRef.picked (CmpRef.best (CmpRef.ranked (CmpRef.importance (shares m c))))) b g
    (⟨128 * i.val + r.val, by omega⟩ : Fin 8192) j).symm
  rw [current_at i r j, marks_at]
  refine congrArg (fun x => Scalar.select (IntOp.andi x (IntOp.cmpi .sle (BitVec.ofNat 32 j.val) (BitVec.ofNat 32 ((128 * i.val + r.val) / 64)))) (0 : EReal) ⊥) ?_
  have hrow : (fun j : Fin 128 => k0_pay10 (F := Ideal) (k0_pay6 (F := Ideal) (weights m c t) (totals m c t) (iblk m c 3 t) (iblk m c 3 t))
      (k0_pay7 (BitVec.ofNat 32 i.val)) places 64#32 (k0_pay8 (BitVec.ofNat 32 i.val)) 0#32 (ix2 r j))
      = fun j : Fin 128 => CmpRef.ranked (CmpRef.importance (shares m c)) (ix4 b g (⟨128 * i.val + r.val, by omega⟩ : Fin 8192) j) := by
    funext j
    rw [scores_at, CmpRef.ranked_at, importance_point m c hpre t b g i hb hg hi]
  rw [hrow]
  refine bit_eq _ _ ?_
  refine (CmpRef.picked_at (CmpRef.ranked (CmpRef.importance (shares m c))) b g (⟨128 * i.val + r.val, by omega⟩ : Fin 8192) j).trans ?_
  refine (Rounds.taken_order (fun j : Fin 128 => CmpRef.ranked (CmpRef.importance (shares m c)) (ix4 b g (⟨128 * i.val + r.val, by omega⟩ : Fin 8192) j))
    (fun j => ?_) 16 (by decide) j).symm
  rw [CmpRef.ranked_at]
  exact CmpRef.score_above _ _ _ (CmpRef.importance_real _ _ _ hpre b g _ j)

/-- The second result's array after the run is the reference's bias of the argument arrays. -/
theorem final (c : Dev nD) (hpre : Finite m c) : (dats m 0 c).arrAt 5 cfg0.N
    = CmpRef.selection (m ((c : Thread nD τ).loc main_arg0)) (m ((c : Thread nD τ).loc main_arg1)) := by
  refine (dats m 0 c).arrAt_eq_of_covers 5 _ (by decide +kernel) fun t _ y => ?_
  blk_simp
  rw [after0_5, out]
  simp only [k0_pay55, k0_pay54, k0_pay53, k0_pay52, k0_pay51, k0_pay50, k0_pay49]
  frame_out
  idx_vars y
  obtain rfl : y0 = 0 := Subsingleton.elim _ _
  obtain rfl : y1 = 0 := Subsingleton.elim _ _
  have h := point m c hpre t (grid0.coords t 0) (grid0.coords t 1) (grid0.coords t 2) rfl rfl rfl y2 y3
  unfold weights totals places at h
  rw [h]
  refine congrArg (CmpRef.selection (m ((c : Thread nD τ).loc main_arg0)) (m ((c : Thread nD τ).loc main_arg1))) ?_
  clear h
  blk_ext [idx t]

end Cert.CmpIdeal.Bias

end
-- ==== Proof.lean ====
module

public import proofs.«01_k».proof.Defs
public import proofs.«01_k».proof.Proof.Gen.Pre_finite
public import proofs.«01_k».proof.Proof.Gen.Pre_finite_cmp
public import proofs.«01_k».proof.Proof.Gen.Win
public import proofs.«01_k».proof.Proof.Gen.Win.Skeleton
public import proofs.«01_k».proof.Proof.Gen.Win.Launch
public import proofs.«01_k».proof.Proof.Gen.Win.Points
public import proofs.«01_k».proof.Proof.Gen.Win.Frame
public import proofs.«01_k».proof.Proof.Gen.WinIdeal
public import proofs.«01_k».proof.Proof.Gen.WinIdeal.Skeleton
public import proofs.«01_k».proof.Proof.Gen.WinIdeal.Launch
public import proofs.«01_k».proof.Proof.Gen.WinIdeal.Points
public import proofs.«01_k».proof.Proof.Gen.WinIdeal.Frame
public import proofs.«01_k».proof.Proof.Gen.WinRefIdeal
public import proofs.«01_k».proof.Proof.Gen.WinIdeal.Value
public import proofs.«01_k».proof.Proof.Gen.WinRefIdeal.Run
public import proofs.«01_k».proof.Proof.Gen.ProjQ
public import proofs.«01_k».proof.Proof.Gen.ProjQ.Skeleton
public import proofs.«01_k».proof.Proof.Gen.ProjQ.Launch
public import proofs.«01_k».proof.Proof.Gen.ProjQ.Points
public import proofs.«01_k».proof.Proof.Gen.ProjQ.Frame
public import proofs.«01_k».proof.Proof.Gen.ProjQIdeal
public import proofs.«01_k».proof.Proof.Gen.ProjQIdeal.Skeleton
public import proofs.«01_k».proof.Proof.Gen.ProjQIdeal.Launch
public import proofs.«01_k».proof.Proof.Gen.ProjQIdeal.Points
public import proofs.«01_k».proof.Proof.Gen.ProjQIdeal.Frame
public import proofs.«01_k».proof.Proof.Gen.ProjQRefIdeal
public import proofs.«01_k».proof.Proof.Gen.ProjQIdeal.Value
public import proofs.«01_k».proof.Proof.Gen.ProjQRefIdeal.Run
public import proofs.«01_k».proof.Proof.Gen.ProjKv
public import proofs.«01_k».proof.Proof.Gen.ProjKv.Skeleton
public import proofs.«01_k».proof.Proof.Gen.ProjKv.Launch
public import proofs.«01_k».proof.Proof.Gen.ProjKv.Points
public import proofs.«01_k».proof.Proof.Gen.ProjKv.Frame
public import proofs.«01_k».proof.Proof.Gen.ProjKvIdeal
public import proofs.«01_k».proof.Proof.Gen.ProjKvIdeal.Skeleton
public import proofs.«01_k».proof.Proof.Gen.ProjKvIdeal.Launch
public import proofs.«01_k».proof.Proof.Gen.ProjKvIdeal.Points
public import proofs.«01_k».proof.Proof.Gen.ProjKvIdeal.Frame
public import proofs.«01_k».proof.Proof.Gen.ProjKvRefIdeal
public import proofs.«01_k».proof.Proof.Gen.ProjKvIdeal.Value
public import proofs.«01_k».proof.Proof.Gen.ProjKvRefIdeal.Run
public import proofs.«01_k».proof.Proof.Gen.ProjXbc
public import proofs.«01_k».proof.Proof.Gen.ProjXbc.Skeleton
public import proofs.«01_k».proof.Proof.Gen.ProjXbc.Launch
public import proofs.«01_k».proof.Proof.Gen.ProjXbc.Points
public import proofs.«01_k».proof.Proof.Gen.ProjXbc.Frame
public import proofs.«01_k».proof.Proof.Gen.ProjXbcIdeal
public import proofs.«01_k».proof.Proof.Gen.ProjXbcIdeal.Skeleton
public import proofs.«01_k».proof.Proof.Gen.ProjXbcIdeal.Launch
public import proofs.«01_k».proof.Proof.Gen.ProjXbcIdeal.Points
public import proofs.«01_k».proof.Proof.Gen.ProjXbcIdeal.Frame
public import proofs.«01_k».proof.Proof.Gen.ProjXbcRefIdeal
public import proofs.«01_k».proof.Proof.Gen.ProjXbcIdeal.Value
public import proofs.«01_k».proof.Proof.Gen.ProjXbcRefIdeal.Run
public import proofs.«01_k».proof.Proof.Gen.ProjMg
public import proofs.«01_k».proof.Proof.Gen.ProjMg.Skeleton
public import proofs.«01_k».proof.Proof.Gen.ProjMg.Launch
public import proofs.«01_k».proof.Proof.Gen.ProjMg.Points
public import proofs.«01_k».proof.Proof.Gen.ProjMg.Frame
public import proofs.«01_k».proof.Proof.Gen.ProjMgIdeal
public import proofs.«01_k».proof.Proof.Gen.ProjMgIdeal.Skeleton
public import proofs.«01_k».proof.Proof.Gen.ProjMgIdeal.Launch
public import proofs.«01_k».proof.Proof.Gen.ProjMgIdeal.Points
public import proofs.«01_k».proof.Proof.Gen.ProjMgIdeal.Frame
public import proofs.«01_k».proof.Proof.Gen.ProjMgRefIdeal
public import proofs.«01_k».proof.Proof.Gen.ProjMgIdeal.Value
public import proofs.«01_k».proof.Proof.Gen.ProjMgRefIdeal.Run
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.MergeIdeal.Value
public import proofs.«01_k».proof.Proof.Gen.MergeRefIdeal.Run
public import proofs.«01_k».proof.Proof.Gen.Cmp
public import proofs.«01_k».proof.Proof.Gen.Cmp.Skeleton
public import proofs.«01_k».proof.Proof.Gen.Cmp.Launch
public import proofs.«01_k».proof.Proof.Gen.Cmp.Points
public import proofs.«01_k».proof.Proof.Gen.Cmp.Frame
public import proofs.«01_k».proof.Proof.Gen.CmpIdeal
public import proofs.«01_k».proof.Proof.Gen.CmpIdeal.Skeleton
public import proofs.«01_k».proof.Proof.Gen.CmpIdeal.Launch
public import proofs.«01_k».proof.Proof.Gen.CmpIdeal.Points
public import proofs.«01_k».proof.Proof.Gen.CmpIdeal.Frame
public import proofs.«01_k».proof.Proof.Gen.CmpRefIdeal
public import proofs.«01_k».proof.Proof.Gen.CmpIdeal.Value
public import proofs.«01_k».proof.Proof.Gen.CmpRefIdeal.Run
public import proofs.«01_k».proof.Proof.WinValue
public import proofs.«01_k».proof.Proof.ProjQ
public import proofs.«01_k».proof.Proof.ProjKv
public import proofs.«01_k».proof.Proof.ProjXbc
public import proofs.«01_k».proof.Proof.ProjMg
public import proofs.«01_k».proof.Proof.MergeValue
public import proofs.«01_k».proof.Proof.CmpValue
public import proofs.«01_k».proof.Proof.BiasRef
public import proofs.«01_k».proof.Proof.BiasValue
public import Idealize.ShloMosaic.Adequacy
public import Idealize.ShloMosaic.Init
public import Idealize.ShloMosaic.Lib.Pipeline.ValueKit
public import Idealize.ShloMosaic.Lib.Pointwise

@[expose] public section

set_option maxRecDepth 16384

noncomputable section

namespace Cert.Proof

open Idealize.ShloMosaic Idealize.SL.Sem

/-- The window attention call, as printed, runs to the end and keeps its arguments. -/
theorem frame_Win : Cert.quiescent_Win (hWin := Cert.Win.Gen.facts) := fun m ρ _ => Cert.Win.Gen.frame m ρ

/-- The window attention call over the extended reals runs to the end and keeps its arguments. -/
theorem frame_WinIdeal : Cert.quiescent_WinIdeal (hWinIdeal := Cert.WinIdeal.Gen.facts) := fun m ρ _ => Cert.WinIdeal.Gen.frame m ρ

/-- The reference of the window attention runs to the end and keeps its arguments. -/
theorem frame_WinRefIdeal : Cert.quiescent_WinRefIdeal (hWinRefIdeal := Cert.WinRefIdeal.Gen.facts) := fun m ρ _ =>
  (θ_run Cert.WinRefIdeal.defs _ _).mono (fun r h => ⟨fun c => (h c).2, sem_eq_zero_of_no_sems (by decide) r.2⟩) (Cert.WinRefIdeal.Value.run m ρ)

/-- The window attention call from finite queries and keys runs to the end and keeps its arguments. -/
theorem frame_WinIdeal_finite : Cert.quiescent_WinIdeal_pre_finite (hWinIdeal := Cert.WinIdeal.Gen.facts) (hPre_finite := Cert.Pre_finite.Gen.facts) :=
  fun m ρ _ => Cert.WinIdeal.Gen.frame m ρ

/-- The reference of the window attention from finite queries and keys runs to the end and keeps its arguments. -/
theorem frame_WinRefIdeal_finite : Cert.quiescent_WinRefIdeal_pre_finite (hWinRefIdeal := Cert.WinRefIdeal.Gen.facts) (hPre_finite := Cert.Pre_finite.Gen.facts) :=
  fun m ρ _ => frame_WinRefIdeal m ρ trivial

/-- Over the extended reals the window attention call and its reference end with equal results, from finite queries and keys. -/
theorem value_Win : Cert.algebraic_WinIdeal_WinRefIdeal_pre_finite (hWinIdeal := Cert.WinIdeal.Gen.facts)
    (hWinRefIdeal := Cert.WinRefIdeal.Gen.facts) (hPre_finite := Cert.Pre_finite.Gen.facts) := by
  pair_intro
  · run_from Cert.WinIdeal.Value.run_blocks m g
  · hlo_run
    exact (Cert.WinIdeal.Attention.final m c (hpre c)).symm

/-- The query-sized projection call, as printed, runs to the end and keeps its arguments. -/
theorem frame_ProjQ : Cert.quiescent_ProjQ (hProjQ := Cert.ProjQ.Gen.facts) := fun m ρ _ => Cert.ProjQ.Gen.frame m ρ

/-- The query-sized projection call over the extended reals runs to the end and keeps its arguments. -/
theorem frame_ProjQIdeal : Cert.quiescent_ProjQIdeal (hProjQIdeal := Cert.ProjQIdeal.Gen.facts) := fun m ρ _ => Cert.ProjQIdeal.Gen.frame m ρ

/-- The reference of the query-sized projection runs to the end and keeps its arguments. -/
theorem frame_ProjQRefIdeal : Cert.quiescent_ProjQRefIdeal (hProjQRefIdeal := Cert.ProjQRefIdeal.Gen.facts) := fun m ρ _ =>
  (θ_run Cert.ProjQRefIdeal.defs _ _).mono (fun r h => ⟨fun c => (h c).2, sem_eq_zero_of_no_sems (by decide) r.2⟩) (Cert.ProjQRefIdeal.Value.run m ρ)

/-- Over the extended reals the query-sized projection call and its reference end with equal results. -/
theorem value_ProjQ : Cert.algebraic_ProjQIdeal_ProjQRefIdeal (hProjQIdeal := Cert.ProjQIdeal.Gen.facts) (hProjQRefIdeal := Cert.ProjQRefIdeal.Gen.facts) := by
  pair_intro
  · run_from Cert.ProjQIdeal.Value.run_blocks m g
  · hlo_run
    exact (Cert.ProjQIdeal.Product.final m c).symm

/-- The key and value projection call, as printed, runs to the end and keeps its arguments. -/
theorem frame_ProjKv : Cert.quiescent_ProjKv (hProjKv := Cert.ProjKv.Gen.facts) := fun m ρ _ => Cert.ProjKv.Gen.frame m ρ

/-- The key and value projection call over the extended reals runs to the end and keeps its arguments. -/
theorem frame_ProjKvIdeal : Cert.quiescent_ProjKvIdeal (hProjKvIdeal := Cert.ProjKvIdeal.Gen.facts) := fun m ρ _ => Cert.ProjKvIdeal.Gen.frame m ρ

/-- The reference of the key and value projection runs to the end and keeps its arguments. -/
theorem frame_ProjKvRefIdeal : Cert.quiescent_ProjKvRefIdeal (hProjKvRefIdeal := Cert.ProjKvRefIdeal.Gen.facts) := fun m ρ _ =>
  (θ_run Cert.ProjKvRefIdeal.defs _ _).mono (fun r h => ⟨fun c => (h c).2, sem_eq_zero_of_no_sems (by decide) r.2⟩) (Cert.ProjKvRefIdeal.Value.run m ρ)

/-- Over the extended reals the key and value projection call and its reference end with equal results. -/
theorem value_ProjKv : Cert.algebraic_ProjKvIdeal_ProjKvRefIdeal (hProjKvIdeal := Cert.ProjKvIdeal.Gen.facts) (hProjKvRefIdeal := Cert.ProjKvRefIdeal.Gen.facts) := by
  pair_intro
  · run_from Cert.ProjKvIdeal.Value.run_blocks m g
  · hlo_run
    exact (Cert.ProjKvIdeal.Product.final m c).symm

/-- The projection of the scan's inputs call, as printed, runs to the end and keeps its arguments. -/
theorem frame_ProjXbc : Cert.quiescent_ProjXbc (hProjXbc := Cert.ProjXbc.Gen.facts) := fun m ρ _ => Cert.ProjXbc.Gen.frame m ρ

/-- The projection of the scan's inputs call over the extended reals runs to the end and keeps its arguments. -/
theorem frame_ProjXbcIdeal : Cert.quiescent_ProjXbcIdeal (hProjXbcIdeal := Cert.ProjXbcIdeal.Gen.facts) := fun m ρ _ => Cert.ProjXbcIdeal.Gen.frame m ρ

/-- The reference of the projection of the scan's inputs runs to the end and keeps its arguments. -/
theorem frame_ProjXbcRefIdeal : Cert.quiescent_ProjXbcRefIdeal (hProjXbcRefIdeal := Cert.ProjXbcRefIdeal.Gen.facts) := fun m ρ _ =>
  (θ_run Cert.ProjXbcRefIdeal.defs _ _).mono (fun r h => ⟨fun c => (h c).2, sem_eq_zero_of_no_sems (by decide) r.2⟩) (Cert.ProjXbcRefIdeal.Value.run m ρ)

/-- Over the extended reals the projection of the scan's inputs call and its reference end with equal results. -/
theorem value_ProjXbc : Cert.algebraic_ProjXbcIdeal_ProjXbcRefIdeal (hProjXbcIdeal := Cert.ProjXbcIdeal.Gen.facts) (hProjXbcRefIdeal := Cert.ProjXbcRefIdeal.Gen.facts) := by
  pair_intro
  · run_from Cert.ProjXbcIdeal.Value.run_blocks m g
  · hlo_run
    exact (Cert.ProjXbcIdeal.Product.final m c).symm

/-- The projection of the merge gates call, as printed, runs to the end and keeps its arguments. -/
theorem frame_ProjMg : Cert.quiescent_ProjMg (hProjMg := Cert.ProjMg.Gen.facts) := fun m ρ _ => Cert.ProjMg.Gen.frame m ρ

/-- The projection of the merge gates call over the extended reals runs to the end and keeps its arguments. -/
theorem frame_ProjMgIdeal : Cert.quiescent_ProjMgIdeal (hProjMgIdeal := Cert.ProjMgIdeal.Gen.facts) := fun m ρ _ => Cert.ProjMgIdeal.Gen.frame m ρ

/-- The reference of the projection of the merge gates runs to the end and keeps its arguments. -/
theorem frame_ProjMgRefIdeal : Cert.quiescent_ProjMgRefIdeal (hProjMgRefIdeal := Cert.ProjMgRefIdeal.Gen.facts) := fun m ρ _ =>
  (θ_run Cert.ProjMgRefIdeal.defs _ _).mono (fun r h => ⟨fun c => (h c).2, sem_eq_zero_of_no_sems (by decide) r.2⟩) (Cert.ProjMgRefIdeal.Value.run m ρ)

/-- Over the extended reals the projection of the merge gates call and its reference end with equal results. -/
theorem value_ProjMg : Cert.algebraic_ProjMgIdeal_ProjMgRefIdeal (hProjMgIdeal := Cert.ProjMgIdeal.Gen.facts) (hProjMgRefIdeal := Cert.ProjMgRefIdeal.Gen.facts) := by
  pair_intro
  · run_from Cert.ProjMgIdeal.Value.run_blocks m g
  · hlo_run
    exact (Cert.ProjMgIdeal.Product.final m c).symm

/-- The merge call, as printed, runs to the end and keeps its arguments. -/
theorem frame_Merge : Cert.quiescent_Merge (hMerge := Cert.Merge.Gen.facts) := fun m ρ _ => Cert.Merge.Gen.frame m ρ

/-- The merge call over the extended reals runs to the end and keeps its arguments. -/
theorem frame_MergeIdeal : Cert.quiescent_MergeIdeal (hMergeIdeal := Cert.MergeIdeal.Gen.facts) := fun m ρ _ => Cert.MergeIdeal.Gen.frame m ρ

/-- The reference of the merge runs to the end and keeps its arguments. -/
theorem frame_MergeRefIdeal : Cert.quiescent_MergeRefIdeal (hMergeRefIdeal := Cert.MergeRefIdeal.Gen.facts) := fun m ρ _ =>
  (θ_run Cert.MergeRefIdeal.defs _ _).mono (fun r h => ⟨fun c => (h c).2, sem_eq_zero_of_no_sems (by decide) r.2⟩) (Cert.MergeRefIdeal.Value.run m ρ)

/-- Over the extended reals the merge call and its reference end with equal results. -/
theorem value_Merge : Cert.algebraic_MergeIdeal_MergeRefIdeal (hMergeIdeal := Cert.MergeIdeal.Gen.facts) (hMergeRefIdeal := Cert.MergeRefIdeal.Gen.facts) := by
  pair_intro
  · run_from Cert.MergeIdeal.Value.run_blocks m g
  · hlo_run
    exact (Cert.MergeIdeal.Output.final m c).symm

/-- The compressed attention call, as printed, runs to the end and keeps its arguments. -/
theorem frame_Cmp : Cert.quiescent_Cmp (hCmp := Cert.Cmp.Gen.facts) := fun m ρ _ => Cert.Cmp.Gen.frame m ρ

/-- The compressed attention call over the extended reals runs to the end and keeps its arguments. -/
theorem frame_CmpIdeal : Cert.quiescent_CmpIdeal (hCmpIdeal := Cert.CmpIdeal.Gen.facts) := fun m ρ _ => Cert.CmpIdeal.Gen.frame m ρ

/-- The reference of the compressed attention runs to the end and keeps its arguments. -/
theorem frame_CmpRefIdeal : Cert.quiescent_CmpRefIdeal (hCmpRefIdeal := Cert.CmpRefIdeal.Gen.facts) := fun m ρ _ =>
  (θ_run Cert.CmpRefIdeal.defs _ _).mono (fun r h => ⟨fun c => (h c).2.2, sem_eq_zero_of_no_sems (by decide) r.2⟩) (Cert.CmpRefIdeal.Value.run m ρ)

/-- The compressed attention call from finite queries and compressed keys runs to the end and keeps its arguments. -/
theorem frame_CmpIdeal_finite : Cert.quiescent_CmpIdeal_pre_finite_cmp (hCmpIdeal := Cert.CmpIdeal.Gen.facts) (hPre_finite_cmp := Cert.Pre_finite_cmp.Gen.facts) :=
  fun m ρ _ => Cert.CmpIdeal.Gen.frame m ρ

/-- The reference of the compressed attention from finite queries and compressed keys runs to the end and keeps its arguments. -/
theorem frame_CmpRefIdeal_finite : Cert.quiescent_CmpRefIdeal_pre_finite_cmp (hCmpRefIdeal := Cert.CmpRefIdeal.Gen.facts) (hPre_finite_cmp := Cert.Pre_finite_cmp.Gen.facts) :=
  fun m ρ _ => frame_CmpRefIdeal m ρ trivial

/-- Over the extended reals the compressed attention call and its reference end with equal attention and equal bias, from finite queries and compressed keys. -/
theorem value_Cmp : Cert.algebraic_CmpIdeal_CmpRefIdeal_pre_finite_cmp (hCmpIdeal := Cert.CmpIdeal.Gen.facts)
    (hCmpRefIdeal := Cert.CmpRefIdeal.Gen.facts) (hPre_finite_cmp := Cert.Pre_finite_cmp.Gen.facts) := by
  pair_intro
  · run_from Cert.CmpIdeal.Value.run_blocks m g
  · run_from Cert.CmpRefIdeal.Value.run m' g'
    · refine (Cert.CmpRef.result_eq m' c).trans ?_
      rw [(hagree c).1, (hagree c).2.1, (hagree c).2.2]
      exact (Cert.CmpIdeal.Compressed.final m c (hpre c)).symm
    · refine (Cert.CmpRef.selection_eq m' c).trans ?_
      rw [(hagree c).1, (hagree c).2.1]
      exact (Cert.CmpIdeal.Bias.final m c (hpre c)).symm

/-- The constant that masks a score of the window attention, read as −∞, is the one the kernel prints. -/
theorem named_Win : Cert.preserves_Win_WinIdeal :=
  IdealRules.named_const.statement _ _ _ _ _ rfl

/-- The constant that masks a score of the compressed attention, read as −∞, is the one the kernel prints. -/
theorem named_Cmp : Cert.preserves_Cmp_CmpIdeal :=
  IdealRules.named_const.statement _ _ _ _ _ rfl

/-- All the claims of the calls. -/
theorem claim : Cert.Claim := ⟨Cert.Win.Gen.facts, Cert.WinIdeal.Gen.facts, Cert.WinRefIdeal.Gen.facts, Cert.ProjQ.Gen.facts, Cert.ProjQIdeal.Gen.facts, Cert.ProjQRefIdeal.Gen.facts, Cert.ProjKv.Gen.facts, Cert.ProjKvIdeal.Gen.facts, Cert.ProjKvRefIdeal.Gen.facts, Cert.ProjXbc.Gen.facts, Cert.ProjXbcIdeal.Gen.facts, Cert.ProjXbcRefIdeal.Gen.facts, Cert.ProjMg.Gen.facts, Cert.ProjMgIdeal.Gen.facts, Cert.ProjMgRefIdeal.Gen.facts, Cert.Merge.Gen.facts, Cert.MergeIdeal.Gen.facts, Cert.MergeRefIdeal.Gen.facts, Cert.Cmp.Gen.facts, Cert.CmpIdeal.Gen.facts, Cert.CmpRefIdeal.Gen.facts, Cert.Pre_finite.Gen.facts, Cert.Pre_finite_cmp.Gen.facts,
  frame_Win, frame_WinIdeal, frame_WinIdeal_finite, frame_WinRefIdeal, frame_WinRefIdeal_finite, frame_ProjQ, frame_ProjQIdeal, frame_ProjQRefIdeal, frame_ProjKv, frame_ProjKvIdeal, frame_ProjKvRefIdeal, frame_ProjXbc, frame_ProjXbcIdeal, frame_ProjXbcRefIdeal, frame_ProjMg, frame_ProjMgIdeal, frame_ProjMgRefIdeal, frame_Merge, frame_MergeIdeal, frame_MergeRefIdeal, frame_Cmp, frame_CmpIdeal, frame_CmpIdeal_finite, frame_CmpRefIdeal, frame_CmpRefIdeal_finite,
  named_Win, value_Win, trivial, value_ProjQ, trivial, value_ProjKv, trivial, value_ProjXbc, trivial, value_ProjMg, trivial, value_Merge, named_Cmp, value_Cmp⟩

end Cert.Proof

end
